-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S2048x512 : Shape := ⟨2, ![2048, 512]⟩
abbrev S3x256x2048 : Shape := ⟨3, ![3, 256, 2048]⟩
abbrev S2x4 : Shape := ⟨2, ![2, 4]⟩
abbrev S1 : Shape := ⟨1, ![1]⟩
abbrev S13 : Shape := ⟨1, ![13]⟩
abbrev S3x4 : Shape := ⟨2, ![3, 4]⟩
abbrev S1x1 : Shape := ⟨2, ![1, 1]⟩
abbrev S_ : Shape := ⟨0, ![]⟩
abbrev S64x2048 : Shape := ⟨2, ![64, 2048]⟩
abbrev S1x64x2048 : Shape := ⟨3, ![1, 64, 2048]⟩
abbrev S512x512 : Shape := ⟨2, ![512, 512]⟩
abbrev S1x256x2048 : Shape := ⟨3, ![1, 256, 2048]⟩
abbrev S256x2048 : Shape := ⟨2, ![256, 2048]⟩
abbrev S256x512 : Shape := ⟨2, ![256, 512]⟩
abbrev S64x512 : Shape := ⟨2, ![64, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x2048, .f32⟩
  | .hbm, ⟨1, _⟩ => ⟨S2048x512, .f32⟩
  | .hbm, ⟨2, _⟩ => ⟨S2048x512, .f32⟩
  | .local _ .vmem, ⟨0, _⟩ => ⟨S512x2048, .f32⟩
  | .local _ .vmem, ⟨1, _⟩ => ⟨S2048x512, .f32⟩
  | .local _ .vmem, ⟨2, _⟩ => ⟨S2048x512, .f32⟩
  | .local _ .vmem, ⟨3, _⟩ => ⟨S512x2048, .bf16⟩
  | .local _ .vmem, ⟨4, _⟩ => ⟨S3x256x2048, .bf16⟩
  | .local _ .vmem, ⟨5, _⟩ => ⟨S3x256x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_44 : BitVec 32 := 1#32
  let v41 : BitVec 32 := Scalar.muli v5 c1_i32_44
  let v42 : BitVec 32 := Scalar.addi c0_i32_45 v41
  v42.toNat
def k0_dev2 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_47 : BitVec 32 := 1#32
  let v43 : BitVec 32 := Scalar.muli v7 c1_i32_47
  let v44 : BitVec 32 := Scalar.addi c0_i32_48 v43
  v44.toNat
def k0_dev3 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_73 : BitVec 32 := 1#32
  let v63 : BitVec 32 := Scalar.muli v7 c1_i32_73
  let v64 : BitVec 32 := Scalar.addi c0_i32_74 v63
  v64.toNat
def k0_dev4 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_84 : BitVec 32 := 1#32
  let v72 : BitVec 32 := Scalar.muli v5 c1_i32_84
  let v73 : BitVec 32 := Scalar.addi c0_i32_85 v72
  v73.toNat
def k0_dev5 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_113 : BitVec 32 := 1#32
  let v99 : BitVec 32 := Scalar.muli v7 c1_i32_113
  let v100 : BitVec 32 := Scalar.addi c0_i32_114 v99
  v100.toNat
def k0_dev6 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_124 : BitVec 32 := 1#32
  let v108 : BitVec 32 := Scalar.muli v5 c1_i32_124
  let v109 : BitVec 32 := Scalar.addi c0_i32_125 v108
  v109.toNat
def k0_dev7 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_153 : BitVec 32 := 1#32
  let v135 : BitVec 32 := Scalar.muli v7 c1_i32_153
  let v136 : BitVec 32 := Scalar.addi c0_i32_154 v135
  v136.toNat
def k0_dev8 (d0 : Dev nD) : Nat :=
  let c0_i32_165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_164 : BitVec 32 := 1#32
  let v144 : BitVec 32 := Scalar.muli v5 c1_i32_164
  let v145 : BitVec 32 := Scalar.addi c0_i32_165 v144
  v145.toNat
def k0_dev9 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_193 : BitVec 32 := 1#32
  let v171 : BitVec 32 := Scalar.muli v7 c1_i32_193
  let v172 : BitVec 32 := Scalar.addi c0_i32_194 v171
  v172.toNat
def k0_dev10 (d0 : Dev nD) : Nat :=
  let c0_i32_205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_204 : BitVec 32 := 1#32
  let v180 : BitVec 32 := Scalar.muli v5 c1_i32_204
  let v181 : BitVec 32 := Scalar.addi c0_i32_205 v180
  v181.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v194 : BitVec 32 := Scalar.muli v2 c512_i32
  let v199 : Index := Scalar.indexCast v194
  let c0_217 : Index := 0#32
  ![v199.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v194 : BitVec 32 := Scalar.muli v2 c512_i32
  let c0_i32_219 : BitVec 32 := 0#32
  ![v194.toNat, 0]
def k0_dev11 (d0 : Dev nD) : Nat :=
  let c0_i32_239 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_238 : BitVec 32 := 1#32
  let v214 : BitVec 32 := Scalar.muli v7 c1_i32_238
  let v215 : BitVec 32 := Scalar.addi c0_i32_239 v214
  v215.toNat
def k0_dev12 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_261 : BitVec 32 := 1#32
  let v231 : BitVec 32 := Scalar.muli v5 c1_i32_261
  let v232 : BitVec 32 := Scalar.addi c0_i32_262 v231
  v232.toNat
def k0_dev13 (d0 : Dev nD) : Nat :=
  let c0_i32_285 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_284 : BitVec 32 := 1#32
  let v248 : BitVec 32 := Scalar.muli v7 c1_i32_284
  let v249 : BitVec 32 := Scalar.addi c0_i32_285 v248
  v249.toNat
def k0_dev14 (d0 : Dev nD) : Nat :=
  let c0_i32_308 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_307 : BitVec 32 := 1#32
  let v265 : BitVec 32 := Scalar.muli v5 c1_i32_307
  let v266 : BitVec 32 := Scalar.addi c0_i32_308 v265
  v266.toNat
def k0_dev15 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_330 : BitVec 32 := 1#32
  let v282 : BitVec 32 := Scalar.muli v7 c1_i32_330
  let v283 : BitVec 32 := Scalar.addi c0_i32_331 v282
  v283.toNat
def k0_dev16 (d0 : Dev nD) : Nat :=
  let c0_i32_354 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_353 : BitVec 32 := 1#32
  let v299 : BitVec 32 := Scalar.muli v5 c1_i32_353
  let v300 : BitVec 32 := Scalar.addi c0_i32_354 v299
  v300.toNat
def k0_dev17 (d0 : Dev nD) : Nat :=
  let c0_i32_377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_376 : BitVec 32 := 1#32
  let v316 : BitVec 32 := Scalar.muli v7 c1_i32_376
  let v317 : BitVec 32 := Scalar.addi c0_i32_377 v316
  v317.toNat
def k0_dev18 (d0 : Dev nD) : Nat :=
  let c0_i32_400 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_399 : BitVec 32 := 1#32
  let v333 : BitVec 32 := Scalar.muli v5 c1_i32_399
  let v334 : BitVec 32 := Scalar.addi c0_i32_400 v333
  v334.toNat
def k0_off3 (d0 : Dev nD) (c0_i32_405 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v343 : BitVec 32 := Scalar.subi v2 c0_i32_405
  let c1_i32_406 : BitVec 32 := 1#32
  let v344 : BitVec 32 := Scalar.subi v343 c1_i32_406
  let c8_i32 : BitVec 32 := 8#32
  let v345 : BitVec 32 := Scalar.addi v344 c8_i32
  let c4_i32_407 : BitVec 32 := 4#32
  let v346 : BitVec 32 := Scalar.remsi v345 c4_i32_407
  let c512_i32_414 : BitVec 32 := 512#32
  let v352 : BitVec 32 := Scalar.muli v346 c512_i32_414
  let v358 : Index := Scalar.indexCast v352
  let c0_419 : Index := 0#32
  ![v358.toNat, 0]
def k0_off4 (d0 : Dev nD) (c0_i32_405 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v343 : BitVec 32 := Scalar.subi v2 c0_i32_405
  let c1_i32_406 : BitVec 32 := 1#32
  let v344 : BitVec 32 := Scalar.subi v343 c1_i32_406
  let c8_i32 : BitVec 32 := 8#32
  let v345 : BitVec 32 := Scalar.addi v344 c8_i32
  let c4_i32_407 : BitVec 32 := 4#32
  let v346 : BitVec 32 := Scalar.remsi v345 c4_i32_407
  let c512_i32_414 : BitVec 32 := 512#32
  let v352 : BitVec 32 := Scalar.muli v346 c512_i32_414
  let c0_i32_421 : BitVec 32 := 0#32
  ![v352.toNat, 0]
def k0_off5 (d0 : Dev nD) (c0_i32_408 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v347 : BitVec 32 := Scalar.addi v2 c0_i32_408
  let c1_i32_409 : BitVec 32 := 1#32
  let v348 : BitVec 32 := Scalar.addi v347 c1_i32_409
  let c4_i32_410 : BitVec 32 := 4#32
  let v349 : BitVec 32 := Scalar.remsi v348 c4_i32_410
  let c512_i32_426 : BitVec 32 := 512#32
  let v368 : BitVec 32 := Scalar.muli v349 c512_i32_426
  let c256_i32_427 : BitVec 32 := 256#32
  let v369 : BitVec 32 := Scalar.addi v368 c256_i32_427
  let v375 : Index := Scalar.indexCast v369
  let c0_432 : Index := 0#32
  ![v375.toNat, 0]
def k0_off6 (d0 : Dev nD) (c0_i32_408 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v347 : BitVec 32 := Scalar.addi v2 c0_i32_408
  let c1_i32_409 : BitVec 32 := 1#32
  let v348 : BitVec 32 := Scalar.addi v347 c1_i32_409
  let c4_i32_410 : BitVec 32 := 4#32
  let v349 : BitVec 32 := Scalar.remsi v348 c4_i32_410
  let c512_i32_426 : BitVec 32 := 512#32
  let v368 : BitVec 32 := Scalar.muli v349 c512_i32_426
  let c256_i32_427 : BitVec 32 := 256#32
  let v369 : BitVec 32 := Scalar.addi v368 c256_i32_427
  let c0_i32_434 : BitVec 32 := 0#32
  ![v369.toNat, 0]
def k0_dev19 (d0 : Dev nD) : Nat :=
  let c0_i32_455 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_454 : BitVec 32 := 1#32
  let v391 : BitVec 32 := Scalar.muli v7 c1_i32_454
  let v392 : BitVec 32 := Scalar.addi c0_i32_455 v391
  v392.toNat
def k0_dev20 (d0 : Dev nD) : Nat :=
  let c0_i32_479 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_478 : BitVec 32 := 1#32
  let v409 : BitVec 32 := Scalar.muli v5 c1_i32_478
  let v410 : BitVec 32 := Scalar.addi c0_i32_479 v409
  v410.toNat
def k0_dev21 (d0 : Dev nD) : Nat :=
  let c0_i32_503 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_502 : BitVec 32 := 1#32
  let v427 : BitVec 32 := Scalar.muli v7 c1_i32_502
  let v428 : BitVec 32 := Scalar.addi c0_i32_503 v427
  v428.toNat
def k0_dev22 (d0 : Dev nD) : Nat :=
  let c0_i32_527 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_526 : BitVec 32 := 1#32
  let v445 : BitVec 32 := Scalar.muli v5 c1_i32_526
  let v446 : BitVec 32 := Scalar.addi c0_i32_527 v445
  v446.toNat
def k0_dev23 (d0 : Dev nD) : Nat :=
  let c0_i32_551 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_550 : BitVec 32 := 1#32
  let v463 : BitVec 32 := Scalar.muli v7 c1_i32_550
  let v464 : BitVec 32 := Scalar.addi c0_i32_551 v463
  v464.toNat
def k0_dev24 (d0 : Dev nD) : Nat :=
  let c0_i32_575 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_574 : BitVec 32 := 1#32
  let v481 : BitVec 32 := Scalar.muli v5 c1_i32_574
  let v482 : BitVec 32 := Scalar.addi c0_i32_575 v481
  v482.toNat
def k0_dev25 (d0 : Dev nD) : Nat :=
  let c0_i32_599 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_598 : BitVec 32 := 1#32
  let v499 : BitVec 32 := Scalar.muli v7 c1_i32_598
  let v500 : BitVec 32 := Scalar.addi c0_i32_599 v499
  v500.toNat
def k0_dev26 (d0 : Dev nD) : Nat :=
  let c0_i32_623 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_622 : BitVec 32 := 1#32
  let v517 : BitVec 32 := Scalar.muli v5 c1_i32_622
  let v518 : BitVec 32 := Scalar.addi c0_i32_623 v517
  v518.toNat
def k0_off7 (d0 : Dev nD) (c0_i32_678 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_671 : BitVec 32 := 2#32
  let v575 : BitVec 32 := Scalar.subi v2 c2_i32_671
  let c1_i32_672 : BitVec 32 := 1#32
  let v576 : BitVec 32 := Scalar.subi v575 c1_i32_672
  let c8_i32_673 : BitVec 32 := 8#32
  let v577 : BitVec 32 := Scalar.addi v576 c8_i32_673
  let c4_i32_674 : BitVec 32 := 4#32
  let v578 : BitVec 32 := Scalar.remsi v577 c4_i32_674
  let c512_i32_677 : BitVec 32 := 512#32
  let v581 : BitVec 32 := Scalar.muli v578 c512_i32_677
  let v582 : BitVec 32 := Scalar.addi v581 c0_i32_678
  let v588 : Index := Scalar.indexCast v582
  let c0_683 : Index := 0#32
  ![v588.toNat, 0]
def k0_off8 (d0 : Dev nD) (c0_i32_678 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_671 : BitVec 32 := 2#32
  let v575 : BitVec 32 := Scalar.subi v2 c2_i32_671
  let c1_i32_672 : BitVec 32 := 1#32
  let v576 : BitVec 32 := Scalar.subi v575 c1_i32_672
  let c8_i32_673 : BitVec 32 := 8#32
  let v577 : BitVec 32 := Scalar.addi v576 c8_i32_673
  let c4_i32_674 : BitVec 32 := 4#32
  let v578 : BitVec 32 := Scalar.remsi v577 c4_i32_674
  let c512_i32_677 : BitVec 32 := 512#32
  let v581 : BitVec 32 := Scalar.muli v578 c512_i32_677
  let v582 : BitVec 32 := Scalar.addi v581 c0_i32_678
  let c0_i32_684 : BitVec 32 := 0#32
  ![v582.toNat, 0]
def k0_off9 (d0 : Dev nD) (c0_i32_706 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_698 : BitVec 32 := 2#32
  let v604 : BitVec 32 := Scalar.addi v2 c2_i32_698
  let c1_i32_699 : BitVec 32 := 1#32
  let v605 : BitVec 32 := Scalar.addi v604 c1_i32_699
  let c4_i32_700 : BitVec 32 := 4#32
  let v606 : BitVec 32 := Scalar.remsi v605 c4_i32_700
  let c512_i32_704 : BitVec 32 := 512#32
  let v609 : BitVec 32 := Scalar.muli v606 c512_i32_704
  let c256_i32_705 : BitVec 32 := 256#32
  let v610 : BitVec 32 := Scalar.addi v609 c256_i32_705
  let v611 : BitVec 32 := Scalar.addi v610 c0_i32_706
  let v617 : Index := Scalar.indexCast v611
  let c0_711 : Index := 0#32
  ![v617.toNat, 0]
def k0_off10 (d0 : Dev nD) (c0_i32_706 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_698 : BitVec 32 := 2#32
  let v604 : BitVec 32 := Scalar.addi v2 c2_i32_698
  let c1_i32_699 : BitVec 32 := 1#32
  let v605 : BitVec 32 := Scalar.addi v604 c1_i32_699
  let c4_i32_700 : BitVec 32 := 4#32
  let v606 : BitVec 32 := Scalar.remsi v605 c4_i32_700
  let c512_i32_704 : BitVec 32 := 512#32
  let v609 : BitVec 32 := Scalar.muli v606 c512_i32_704
  let c256_i32_705 : BitVec 32 := 256#32
  let v610 : BitVec 32 := Scalar.addi v609 c256_i32_705
  let v611 : BitVec 32 := Scalar.addi v610 c0_i32_706
  let c0_i32_712 : BitVec 32 := 0#32
  ![v611.toNat, 0]
-- ==== ReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Geometry.lean ====
/-
  The ring of four devices: who sends what to whom, which rows of which buffer every copy moves, and what every buffer holds once it is filled.

  Device `c` starts with its block `X c` of `x` (512 rows) and its block `Wt c` of `w` (512 columns). It rounds `X c` to bf16 and sends the upper 256 rows
  around the ring clockwise (to the device after it) and the lower 256 rows counterclockwise, three hops each way, four windows of 64 rows a hop. So
  every device sees every row of `x` and multiplies it with its own columns of `w`.
-/
module

public import proofs.«01_k».proof.Proof.Gen.KernelIdeal
public import proofs.«01_k».proof.Proof.Gen.KernelIdeal.Skeleton
public import Idealize.ShloMosaic.Lib.ViewIndex
public import Idealize.ShloMosaic.Lib.ValueLayout
public import Idealize.ShloMosaic.Lib.ValueIdxCoords
public import Idealize.ShloMosaic.Lib.Pipeline.Value

@[expose] public section

noncomputable section

namespace Cert.RingMM

open Cert.KernelIdeal Cert.KernelIdeal.Gen
open Idealize.ShloMosaic Idealize.ShloMosaic.TcCoe
open Idealize.ShloMosaic.ValueIdx (ix2 ix3)

/-! ## The ring -/

/-- A move along the ring: the one in direction `d` (`false` clockwise, to the device after; `true` counterclockwise), as a distance. -/
def step (d : Bool) : ℕ := if d then 3 else 1

/-- The device `c` sends to in direction `d`. -/
def peer (d : Bool) (c : Dev nD) : Dev nD := ⟨(c.val + step d) % 4, Nat.mod_lt _ (by decide)⟩
/-- The device `c` receives from in direction `d`. -/
def from' (d : Bool) (c : Dev nD) : Dev nD := peer (!d) c

theorem peer_not (d : Bool) (c : Dev nD) : peer (!d) (peer d c) = c := by revert c d; decide
theorem peer_not' (d : Bool) (c : Dev nD) : peer d (peer (!d) c) = c := by revert c d; decide

/-- Whose rows device `c` receives in direction `d` at hop `h`. -/
def origin (d : Bool) (h : Fin 3) (c : Dev nD) : Dev nD := ⟨(c.val + if d then 1 + h.val else 3 - h.val) % 4, Nat.mod_lt _ (by decide)⟩

theorem origin_zero (d : Bool) (c : Dev nD) : origin d 0 (peer d c) = c := by revert c d; decide
theorem origin_one (d : Bool) (c : Dev nD) : origin d 1 (peer d c) = origin d 0 c := by revert c d; decide
theorem origin_two (d : Bool) (c : Dev nD) : origin d 2 (peer d c) = origin d 1 c := by revert c d; decide

/-- A copy between devices: direction, hop, window. -/
abbrev Link : Type := Bool × Fin 3 × Fin 4

/-! ## Contents -/

variable {F : FTy → Type} [FloatOps F] (m : (ℓ : Loc nD τ sig) → Buf (Elt F) ℓ)

def X (c : Dev nD) : Vec F S512x2048 .f32 := m ((c : Thread nD τ).loc main_arg0)
def Wt (c : Dev nD) : Vec F S2048x512 .f32 := m ((c : Thread nD τ).loc main_arg1)
/-- `X c` rounded to bf16. -/
def XS (c : Dev nD) : FVec F S512x2048 .bf16 := truncf .bf16 (X m c) bitsLt_bf16_f32

theorem row_lt (d : Bool) (r : ℕ) (h : r < 256) : 256 * d.toNat + r < 512 := by cases d <;> simp <;> omega

/-- What the landing buffer of direction `d` holds on device `c`: at hop `h`, the half `d` of the rows of `origin d h c`. -/
def CT (d : Bool) (c : Dev nD) : Vec F S3x256x2048 .bf16 := fun i => XS m (origin d (i 0) c) (ix2 ⟨256 * d.toNat + (i 1).val, row_lt d _ (i 1).isLt⟩ (i 2))

/-- The product's blocks of rows, by how they are computed: the device's own rows; a hop's 256 rows at once (hops 0 and 1); a window's 64 rows (hop 2). -/
inductive Blk
  | own
  | hop (d : Bool) (h : Fin 2)
  | fin (d : Bool) (s : Fin 4)
  deriving DecidableEq

/-- The blocks in the order in which they are computed. -/
def blks : List Blk :=
  [.own, .hop false 0, .hop true 0, .hop false 1, .hop true 1, .fin false 0, .fin true 0, .fin false 1, .fin true 1, .fin false 2, .fin true 2, .fin false 3, .fin true 3]

theorem mem_blks (b : Blk) : b ∈ blks := by
  rcases b with _ | ⟨d, h⟩ | ⟨d, s⟩
  · decide
  · revert d h; decide
  · revert d s; decide

instance : Fintype Blk := Fintype.ofList blks mem_blks

/-- The block a row of device `c`'s result belongs to. -/
def key (c : Dev nD) (r : ℕ) : Blk :=
  if r / 512 = c.val then .own
  else if r % 512 < 256 then
    if (c.val + 3 - r / 512) % 4 = 0 then .hop false 0 else if (c.val + 3 - r / 512) % 4 = 1 then .hop false 1 else .fin false ⟨(r % 256) / 64, by omega⟩
  else
    if (r / 512 + 3 - c.val) % 4 = 0 then .hop true 0 else if (r / 512 + 3 - c.val) % 4 = 1 then .hop true 1 else .fin true ⟨(r % 256) / 64, by omega⟩

/-- A block's first row, and how many it has. -/
def off (c : Dev nD) : Blk → ℕ
  | .own => 512 * c.val
  | .hop false h => 512 * ((c.val + 3 - h.val) % 4)
  | .hop true h => 512 * ((c.val + 1 + h.val) % 4) + 256
  | .fin false s => 512 * ((c.val + 1) % 4) + 64 * s.val
  | .fin true s => 512 * ((c.val + 3) % 4) + 256 + 64 * s.val
def rows : Blk → ℕ
  | .own => 512
  | .hop _ _ => 256
  | .fin _ _ => 64

theorem key_iff (c : Dev nD) (b : Blk) (r : ℕ) (hr : r < 2048) : key c r = b ↔ off c b ≤ r ∧ r < off c b + rows b := by
  obtain ⟨c, hc⟩ := c
  have hc : c < 4 := hc
  unfold key
  rcases b with _ | ⟨d, h⟩ | ⟨d, s⟩
  · simp only [off, rows]
    split_ifs <;> simp <;> omega
  · have h2 := h.isLt
    obtain rfl | rfl : h = 0 ∨ h = 1 := by revert h; decide
    all_goals cases d <;> simp only [off, rows] <;> split_ifs <;> simp <;> omega
  · have h2 := s.isLt
    cases d <;> simp only [off, rows] <;> split_ifs <;> simp [Fin.ext_iff] <;> omega

/-- A hop's 256 rows, and a last-hop window's 64, as the loads read them. -/
def hopA (d : Bool) (h : Fin 3) (c : Dev nD) : Vec F S1x256x2048 .bf16 := fun x => CT m d c (ix3 h (x 1) (x 2))
def finA (d : Bool) (s : Fin 4) (c : Dev nD) : Vec F S1x64x2048 .bf16 :=
  fun x => CT m d c (ix3 2 ⟨64 * s.val + (x 1).val, by have h : (x 1).val < 64 := (x 1).isLt; have := s.isLt; omega⟩ (x 2))

def ownP (c : Dev nD) : FVec F S512x512 .f32 := k0_pay11 (k0_pay10 (X m c) (Wt m c))
def hopP (d : Bool) (h : Fin 3) (c : Dev nD) : FVec F S256x512 .f32 := k0_pay12 (hopA m d h c) (Wt m c)
def finP (d : Bool) (s : Fin 4) (c : Dev nD) : FVec F S64x512 .f32 := k0_pay18 (k0_pay17 (finA m d s c) (Wt m c))

/-- Device `c`'s result: row by row, of the block the row belongs to. -/
def outP (c : Dev nD) (r : ℕ) (q : Fin 512) : Blk → F .f32
  | .own => ownP m c (ix2 ⟨r % 512, Nat.mod_lt _ (by decide)⟩ q)
  | .hop d h => hopP m d h.castSucc c (ix2 ⟨r % 256, Nat.mod_lt _ (by decide)⟩ q)
  | .fin d s => finP m d s c (ix2 ⟨r % 64, Nat.mod_lt _ (by decide)⟩ q)
def OUT (c : Dev nD) : Vec F S2048x512 .f32 := fun i => outP m c (i 0).val (i 1) (key c (i 0).val)

/-! ## Windows -/

/-- The rows of `x` of a block of 64, of a hop's buffer, of a window of it, and of a block of the result. -/
def xset (j : Fin 8) : Finset S512x2048.Idx := Finset.univ.filter fun i => (i 0).val / 64 = j.val
def sset (h : Fin 3) : Finset S3x256x2048.Idx := Finset.univ.filter fun i => (i 0).val = h.val
def lset (h : Fin 3) (s : Fin 4) : Finset S3x256x2048.Idx := Finset.univ.filter fun i => (i 0).val = h.val ∧ (i 1).val / 64 = s.val
def oset (c : Dev nD) (b : Blk) : Finset S2048x512.Idx := Finset.univ.filter fun i => key c (i 0).val = b

theorem xset_eq (j : Fin 8) (off : Fin S512x2048.rank → ℕ) (inb) (h : off = ![64 * j.val, 0]) :
    (Rect.unit (s := S512x2048) off S64x2048.size inb).set = xset j := by
  subst h
  ext i
  rw [Rect.mem_set_unit, xset, Finset.mem_filter]
  have h1 : (i 1).val < 2048 := (i 1).isLt
  constructor
  · intro h
    have h0 := h 0
    simp at h0
    exact ⟨Finset.mem_univ _, by omega⟩
  · rintro ⟨-, h⟩ a
    match a with
    | 0 => simp; omega
    | 1 => simp; exact h1

theorem lset_eq (h : Fin 3) (s : Fin 4) (off : Fin S3x256x2048.rank → ℕ) (inb) (ho : off = ![h.val, 64 * s.val, 0]) :
    (Rect.unit (s := S3x256x2048) off S1x64x2048.size inb).set = lset h s := by
  subst ho
  ext i
  rw [Rect.mem_set_unit, lset, Finset.mem_filter]
  have h2 : (i 2).val < 2048 := (i 2).isLt
  constructor
  · intro h'
    have h0 := h' 0
    have h1 := h' 1
    simp at h0 h1
    exact ⟨Finset.mem_univ _, by omega, by omega⟩
  · rintro ⟨-, h0, h1⟩ a
    match a with
    | 0 => simp; omega
    | 1 => simp; omega
    | 2 => simp; exact h2

theorem sset_eq (h : Fin 3) (off : Fin S3x256x2048.rank → ℕ) (inb) (ho : off = ![h.val, 0, 0]) :
    (Rect.unit (s := S3x256x2048) off S1x256x2048.size inb).set = sset h := by
  subst ho
  ext i
  rw [Rect.mem_set_unit, sset, Finset.mem_filter]
  have h2 : (i 2).val < 2048 := (i 2).isLt
  have h1 : (i 1).val < 256 := (i 1).isLt
  constructor
  · intro h'
    have h0 := h' 0
    simp at h0
    exact ⟨Finset.mem_univ _, by omega⟩
  · rintro ⟨-, h0⟩ a
    match a with
    | 0 => simp; omega
    | 1 => simp; exact h1
    | 2 => simp; exact h2

theorem oset_eq (c : Dev nD) (b : Blk) (o size : Fin S2048x512.rank → ℕ) (inb) (ho : o = ![off c b, 0]) (hs : size = ![rows b, 512]) :
    (Rect.unit (s := S2048x512) o size inb).set = oset c b := by
  subst ho hs
  ext i
  rw [Rect.mem_set_unit, oset, Finset.mem_filter]
  have h1 : (i 1).val < 512 := (i 1).isLt
  have h0 : (i 0).val < 2048 := (i 0).isLt
  rw [key_iff c b _ h0]
  constructor
  · intro h
    exact ⟨Finset.mem_univ _, h 0⟩
  · rintro ⟨-, h⟩ a
    match a with
    | 0 => exact h
    | 1 => simp; exact h1

/-! ## What the copies and stores write -/

/-- A write through a view of what some contents already hold under it gives those contents under it. -/
theorem write_of_read {κ : Kind} {Val : EltTy → Type} {sp : Space} {s : Shape} {e : EltTy} {v : View sig κ sp s e} {g : v.ty.Contents Val} {w : s.Idx → Val e}
    (h : v.read Val g = w) (f : v.ty.Contents Val) : ∀ i ∈ v.set, v.write Val f w Finset.univ i = g i := by
  subst h
  intro i hi
  obtain ⟨x, -, rfl⟩ := Finset.mem_map.mp hi
  rw [View.write_emb_of_mem _ _ (Finset.mem_univ x), View.read_apply]
  exact eq_of_heq ((cast_heq _ _).trans (cast_heq _ _))

abbrev x0M : Memref sig .tc .hbm S512x2048 .f32 := Memref.whole main_arg0
abbrev w0M : Memref sig .tc .hbm S2048x512 .f32 := Memref.whole main_arg1
abbrev o0M : Memref sig .tc .hbm S2048x512 .f32 := Memref.whole main_v1
abbrev xM : Memref sig .tc .vmem S512x2048 .f32 := Memref.whole cc0_scratch0
abbrev wM : Memref sig .tc .vmem S2048x512 .f32 := Memref.whole cc0_scratch1
abbrev oM : Memref sig .tc .vmem S2048x512 .f32 := Memref.whole cc0_scratch2
abbrev sM : Memref sig .tc .vmem S512x2048 .bf16 := Memref.whole cc0_scratch3
abbrev aM : Memref sig .tc .vmem S3x256x2048 .bf16 := Memref.whole cc0_scratch4
abbrev bM : Memref sig .tc .vmem S3x256x2048 .bf16 := Memref.whole cc0_scratch5
/-- The landing buffer of a direction. -/
abbrev lM (d : Bool) : Memref sig .tc .vmem S3x256x2048 .bf16 := match d with | false => aM | true => bM
/-- Contents of the landing buffer of a direction, as contents of the buffer. -/
def lC (d : Bool) (f : Vec F S3x256x2048 .bf16) : (lM d).view.ty.Contents (Elt F) := match d with | false => f | true => f

/-- The cast of a block of 64 rows. -/
theorem cast_read (c : Dev nD) (off : Fin S512x2048.rank → ℕ) (inb) (inb') :
    (sM.access (Rect.unit (s := S512x2048) off S64x2048.size inb)).read (Elt F) (XS m c)
      = k0_pay1 (xM.view.readAt (Elt F) (Rect.unit (s := S512x2048) off S64x2048.size inb').toLoadRect (X m c)) :=
  (shapeCast_self _ shapeCasts_S64x2048_S64x2048).symm

/-- A hop's 256 rows, read whole. -/
theorem hopA_read (d : Bool) (c : Dev nD) (h : Fin 3) (off : Fin S3x256x2048.rank → ℕ) (inb) (ho : off = ![h.val, 0, 0]) :
    (lM d).view.readAt (Elt F) (Rect.unit (s := S3x256x2048) off S1x256x2048.size inb).toLoadRect (lC d (CT m d c)) = hopA m d h c := by
  subst ho
  have key : ∀ x : S1x256x2048.Idx, (Rect.unit (s := S3x256x2048) ![h.val, 0, 0] S1x256x2048.size inb).idx x = ix3 h (x 1) (x 2) := by
    intro x
    refine Shape.idx3_ext ?_ ?_ ?_
    · have : (x 0).val < 1 := (x 0).isLt
      show h.val + 1 * (x 0).val = h.val
      omega
    · show 0 + 1 * (x 1).val = (x 1).val
      omega
    · show 0 + 1 * (x 2).val = (x 2).val
      omega
  cases d <;> exact funext fun x => congrArg (CT m _ c) (key x)

/-- A last-hop window's 64 rows. -/
theorem finA_read (d : Bool) (c : Dev nD) (s : Fin 4) (off : Fin S3x256x2048.rank → ℕ) (inb) (ho : off = ![2, 64 * s.val, 0]) :
    (lM d).view.readAt (Elt F) (Rect.unit (s := S3x256x2048) off S1x64x2048.size inb).toLoadRect (lC d (CT m d c)) = finA m d s c := by
  subst ho
  have key : ∀ x : S1x64x2048.Idx, (Rect.unit (s := S3x256x2048) ![2, 64 * s.val, 0] S1x64x2048.size inb).idx x
      = ix3 (2 : Fin 3) (⟨64 * s.val + (x 1).val, by have h : (x 1).val < 64 := (x 1).isLt; have := s.isLt; omega⟩ : Fin 256) (x 2) := by
    intro x
    refine Shape.idx3_ext ?_ ?_ ?_
    · have : (x 0).val < 1 := (x 0).isLt
      show 2 + 1 * (x 0).val = 2
      omega
    · show 64 * s.val + 1 * (x 1).val = 64 * s.val + (x 1).val
      omega
    · show 0 + 1 * (x 2).val = (x 2).val
      omega
  cases d <;> exact funext fun x => congrArg (CT m _ c) (key x)

theorem whole_read_x (c : Dev nD) (off : Fin S512x2048.rank → ℕ) (inb) (ho : off = ![0, 0]) :
    xM.view.readAt (Elt F) (Rect.unit (s := S512x2048) off S512x2048.size inb).toLoadRect (X m c) = X m c :=
  Memref.readAt_unit_zero (Elt F) cc0_scratch0 (ho.trans (funext fun a => by match a with | 0 => rfl | 1 => rfl)) inb _

theorem whole_read_w (c : Dev nD) (off : Fin S2048x512.rank → ℕ) (inb) (ho : off = ![0, 0]) :
    wM.view.readAt (Elt F) (Rect.unit (s := S2048x512) off S2048x512.size inb).toLoadRect (Wt m c) = Wt m c :=
  Memref.readAt_unit_zero (Elt F) cc0_scratch1 (ho.trans (funext fun a => by match a with | 0 => rfl | 1 => rfl)) inb _

/-! ## What a copy between devices lands -/

/-- A window of a landing buffer. -/
abbrev lwin (d : Bool) (off : Fin S3x256x2048.rank → ℕ) (inb : ∀ a, off a + S1x64x2048.size a ≤ S3x256x2048.size a) : Memref sig .tc .vmem S64x2048 .bf16 :=
  ((lM d).slice (Rect.unit (s := S3x256x2048) off S1x64x2048.size inb) (fun _ => rfl)).squeeze S64x2048 squeezes_S1x64x2048_S64x2048

theorem lwin_idx (h : Fin 3) (s : Fin 4) (off : Fin S3x256x2048.rank → ℕ) (inb) (ho : off = ![h.val, 64 * s.val, 0]) (x : S64x2048.Idx) :
    (Rect.unit (s := S3x256x2048) off S1x64x2048.size inb).emb (Shape.reshapeEquiv squeezes_S1x64x2048_S64x2048.numel_eq x)
      = ix3 h (⟨64 * s.val + (x 0).val, by have h : (x 0).val < 64 := (x 0).isLt; have := s.isLt; omega⟩ : Fin 256) (x 1) := by
  subst ho
  have e : (Shape.reshapeEquiv squeezes_S1x64x2048_S64x2048.numel_eq x : S1x64x2048.Idx) = ix3 (⟨0, Nat.one_pos⟩ : Fin 1) (x 0) (x 1) :=
    (congrArg _ (show x = ix2 (x 0) (x 1) from funext fun a => by match a with | 0 => rfl | 1 => rfl)).trans (ValueIdx.reshapeEquiv_ix2_1ab _ (x 0) (x 1))
  rw [e]
  refine Shape.idx3_ext ?_ ?_ ?_
  · show h.val + 1 * 0 = h.val
    omega
  · show 64 * s.val + 1 * (x 0).val = 64 * s.val + (x 0).val
    omega
  · show 0 + 1 * (x 1).val = (x 1).val
    omega

/-- What a window of the landing buffer reads: 64 rows of the origin's block, rounded. -/
theorem lwin_read (d : Bool) (h : Fin 3) (s : Fin 4) (c : Dev nD) (off : Fin S3x256x2048.rank → ℕ) (inb) (ho : off = ![h.val, 64 * s.val, 0]) (x : S64x2048.Idx) :
    (lwin d off inb).view.read (Elt F) (lC d (CT m d c)) x
      = XS m (origin d h c) (ix2 ⟨256 * d.toNat + (64 * s.val + (x 0).val), row_lt d _ (by have h : (x 0).val < 64 := (x 0).isLt; have := s.isLt; omega)⟩ (x 1)) := by
  have k := lwin_idx h s off inb ho x
  cases d <;> exact congrArg (CT m _ c) k

/-- The first hop's copy: a window of the rounded block lands in the next device's landing buffer. -/
theorem send_read (d : Bool) (s : Fin 4) (c : Dev nD) (off : Fin S3x256x2048.rank → ℕ) (inb) (ho : off = ![0, 64 * s.val, 0])
    (so : Fin S512x2048.rank → ℕ) (sinb) (hso : so = ![256 * d.toNat + 64 * s.val, 0]) :
    (lwin d off inb).view.read (Elt F) (lC d (CT m d (peer d c)))
      = (sM.slice (Rect.unit (s := S512x2048) so S64x2048.size sinb) (fun _ => rfl)).view.read (Elt F) (XS m c) := by
  funext x
  rw [lwin_read m d 0 s (peer d c) off inb ho x, origin_zero]
  subst hso
  refine congrArg (XS m c) (funext fun a => Fin.ext ?_)
  match a with
  | 0 => show 256 * d.toNat + (64 * s.val + (x 0).val) = 256 * d.toNat + 64 * s.val + 1 * (x 0).val; omega
  | 1 => show (x 1).val = 0 + 1 * (x 1).val; omega

/-- A later hop's copy: a window of the hop before lands in the next device's landing buffer. -/
theorem relay_read (d : Bool) (h h' : Fin 3) (s : Fin 4) (c : Dev nD) (off : Fin S3x256x2048.rank → ℕ) (inb) (ho : off = ![h.val, 64 * s.val, 0])
    (so : Fin S3x256x2048.rank → ℕ) (sinb) (hso : so = ![h'.val, 64 * s.val, 0]) (hh : origin d h (peer d c) = origin d h' c) :
    (lwin d off inb).view.read (Elt F) (lC d (CT m d (peer d c))) = (lwin d so sinb).view.read (Elt F) (lC d (CT m d c)) := by
  funext x
  rw [lwin_read m d h s (peer d c) off inb ho x, lwin_read m d h' s c so sinb hso x, hh]

/-! ## What the products' stores write -/

theorem own_read (c : Dev nD) (o : Fin S2048x512.rank → ℕ) (inb) (ho : o = ![off c .own, 0]) :
    (oM.access (Rect.unit (s := S2048x512) o S512x512.size inb)).read (Elt F) (OUT m c) = ownP m c := by
  subst ho
  funext x
  have h0 : (x 0).val < 512 := (x 0).isLt
  have hc : c.val < 4 := c.isLt
  have hk : key c (off c .own + 1 * (x 0).val) = .own := (key_iff c .own _ (by simp only [off]; omega)).mpr (by simp only [off, rows]; omega)
  show outP m c (off c .own + 1 * (x 0).val) _ (key c (off c .own + 1 * (x 0).val)) = ownP m c x
  rw [hk]
  refine congrArg (ownP m c) (funext fun a => Fin.ext ?_)
  match a with
  | 0 => show (off c .own + 1 * (x 0).val) % 512 = (x 0).val; simp only [off]; omega
  | 1 => show 0 + 1 * (x 1).val = (x 1).val; omega

theorem hop_read (c : Dev nD) (d : Bool) (h : Fin 2) (o : Fin S2048x512.rank → ℕ) (inb) (ho : o = ![off c (.hop d h), 0]) :
    (oM.access (Rect.unit (s := S2048x512) o S256x512.size inb)).read (Elt F) (OUT m c) = hopP m d h.castSucc c := by
  subst ho
  funext x
  have h0 : (x 0).val < 256 := (x 0).isLt
  have hb : off c (.hop d h) + 256 ≤ 2048 ∧ off c (.hop d h) % 256 = 0 := by cases d <;> simp only [off] <;> omega
  have hk : key c (off c (.hop d h) + 1 * (x 0).val) = .hop d h := (key_iff c _ _ (by omega)).mpr (by simp only [rows]; omega)
  show outP m c (off c (.hop d h) + 1 * (x 0).val) _ (key c (off c (.hop d h) + 1 * (x 0).val)) = hopP m d h.castSucc c x
  rw [hk]
  refine congrArg (hopP m d h.castSucc c) (funext fun a => Fin.ext ?_)
  match a with
  | 0 => show (off c (.hop d h) + 1 * (x 0).val) % 256 = (x 0).val; omega
  | 1 => show 0 + 1 * (x 1).val = (x 1).val; omega

theorem fin_read (c : Dev nD) (d : Bool) (s : Fin 4) (o : Fin S2048x512.rank → ℕ) (inb) (ho : o = ![off c (.fin d s), 0]) :
    (oM.access (Rect.unit (s := S2048x512) o S64x512.size inb)).read (Elt F) (OUT m c) = finP m d s c := by
  subst ho
  funext x
  have h0 : (x 0).val < 64 := (x 0).isLt
  have hb : off c (.fin d s) + 64 ≤ 2048 ∧ off c (.fin d s) % 64 = 0 := by have := s.isLt; cases d <;> simp only [off] <;> omega
  have hk : key c (off c (.fin d s) + 1 * (x 0).val) = .fin d s := (key_iff c _ _ (by omega)).mpr (by simp only [rows]; omega)
  show outP m c (off c (.fin d s) + 1 * (x 0).val) _ (key c (off c (.fin d s) + 1 * (x 0).val)) = finP m d s c x
  rw [hk]
  refine congrArg (finP m d s c) (funext fun a => Fin.ext ?_)
  match a with
  | 0 => show (off c (.fin d s) + 1 * (x 0).val) % 64 = (x 0).val; omega
  | 1 => show 0 + 1 * (x 1).val = (x 1).val; omega

end Cert.RingMM

end
-- ==== Proof.Protocol.lean ====
/-
  The exchange between the devices as rounds of semaphore cells: what every semaphore counts, what a wait on it hands over, what every device owes the
  others, and why no wait can be stuck.

  A device's barrier cell is raised once by each of its two neighbours: the one it sends to in direction `d` hands it, with that signal, its landing buffer
  of direction `d`. Every link (direction, hop, window) has a send cell at the sender, which gives the source window back, and a receive cell at the
  receiver, which hands over the landed window. All cells have one round.
-/
module

public import proofs.«01_k».proof.Proof.Geometry
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.RingMM

open Cert.KernelIdeal Cert.KernelIdeal.Gen
open Idealize.ShloMosaic Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

/-! ## The resource algebra -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds, inside the user algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER (F := F)).LandsIn (upEmb : UEmb _ 𝕄) := by unfold ER; infer_instance
/-- The counters of the copies a device makes within itself. -/
abbrev EC : UEmb Counters (MT nD τ sig Unit (Elt F) ℕ UU ℕ) := countersEmb

abbrev 𝒱₀ : Variants := Variants.none

/-! ## Semaphores and cells -/

/-- The semaphore of the input copy of rows `64 j …`; -/
def xS (j : Fin 8) : DmaSem sig := ⟨j.val, lt_of_lt_of_le j.isLt (by decide)⟩
/-- of the copy of `w`; -/
def wS : DmaSem sig := ⟨8, by decide⟩
/-- the place of a result copy's semaphore; -/
def oIx : Blk → Fin 13
  | .own => 0
  | .hop d h => ⟨1 + 2 * h.val + d.toNat, by have := h.isLt; cases d <;> simp <;> omega⟩
  | .fin d s => ⟨5 + 2 * s.val + d.toNat, by have := s.isLt; cases d <;> simp <;> omega⟩
/-- of the copy of a block of the result. -/
def oS (b : Blk) : DmaSem sig := ⟨9 + (oIx b).val, lt_of_lt_of_le (Nat.add_lt_add_left (oIx b).isLt 9) (by decide)⟩

/-- A link's send semaphore (`false`) and receive semaphore (`true`). -/
def rsem (k : Bool) (t : Link) : DmaSem sig :=
  ⟨22 + 24 * t.1.toNat + 12 * k.toNat + 4 * t.2.1.val + t.2.2.val, by
    have h1 := t.2.1.isLt; have h2 := t.2.2.isLt
    have h3 : t.1.toNat ≤ 1 := Bool.toNat_le t.1
    have h4 : k.toNat ≤ 1 := Bool.toNat_le k
    have : sig.nDmaSem = 70 := rfl
    omega⟩

/-- Which link a semaphore belongs to, if any. -/
def decode (q : DmaSem sig) : Option (Bool × Link) :=
  if q.val < 22 then none
  else some (decide (12 ≤ (q.val - 22) % 24), decide (24 ≤ q.val - 22), ⟨(q.val - 22) % 12 / 4, by omega⟩, ⟨(q.val - 22) % 4, by omega⟩)

theorem decode_rsem (k : Bool) (t : Link) : decode (rsem k t) = some (k, t) := by revert k t; decide

abbrev barS : Sem sig := (SemArray.scalar (sig.barrier 0 rfl) : Sems sig S_).sem

/-- The cells of the exchange on one device: the barrier's, and every link's two. -/
abbrev Slot : Type := Option (Bool × Link)

abbrev csem : Slot → SemLoc sig
  | none => .reg barS
  | some (k, t) => .dma (rsem k t)

theorem csem_inj : Function.Injective csem := fun a b h => by
  match a, b with
  | none, none => rfl
  | none, some _ => exact absurd h (fun h => by cases h)
  | some _, none => exact absurd h (fun h => by cases h)
  | some (k, t), some (k', t') =>
    have e : rsem k t = rsem k' t' := by injection h
    have := congrArg decode e
    rw [decode_rsem, decode_rsem] at this
    exact this

abbrev cell (x : Dev nD × Slot) : GSem nD τ sig := ((x.1 : Thread nD τ), csem x.2)

theorem cell_inj : Function.Injective cell := fun x y h => by
  have h1 : x.1 = y.1 := congrArg (fun g : GSem nD τ sig => g.1.1) h
  have h2 : x.2 = y.2 := csem_inj (congrArg (fun g : GSem nD τ sig => g.2) h)
  exact Prod.ext h1 h2

abbrev barCell (c : Dev nD) : GSem nD τ sig := ((c : Thread nD τ), .reg barS)
abbrev sndCell (t : Link) (c : Dev nD) : GSem nD τ sig := ((c : Thread nD τ), .dma (rsem false t))
abbrev rcvCell (t : Link) (c : Dev nD) : GSem nD τ sig := ((c : Thread nD τ), .dma (rsem true t))

/-- The credit of one window between devices. -/
abbrev N : ℕ := (lwin false ![0, 0, 0] inb_S3x256x2048_S1x64x2048_0_0_0).view.dmaCredit
theorem N_pos : 0 < N := View.dmaCredit_pos _ (by decide)

/-! ## Contents held -/

/-- Elements of a buffer of device `c`. -/
abbrev pt (c : Dev nD) (b : Ref sig .tc) (S : Finset (Idx ((c : Thread nD τ).loc b))) (q : PosShare TreeShare) (f : Buf (Elt F) ((c : Thread nD τ).loc b)) : sProp 𝕄 :=
  iprop(((c : Thread nD τ).loc b) ↦[S]{q} f)

/-- Elements of the landing buffer of direction `d`. -/
def LT (d : Bool) (c : Dev nD) (S : Finset S3x256x2048.Idx) (q : PosShare TreeShare) (f : Vec F S3x256x2048 .bf16) : sProp 𝕄 :=
  match d with
  | false => pt c cc0_scratch4 S q f
  | true => pt c cc0_scratch5 S q f

instance LT_storable (d : Bool) (c : Dev nD) (S) (q) (f : Vec F S3x256x2048 .bf16) : BI.Storable (upEmb : UEmb _ 𝕄) (LT d c S q f) := by
  cases d <;> (unfold LT; infer_instance)

/-- The block of 64 rows of `x` a first-hop link sends. -/
def xj (d : Bool) (s : Fin 4) : Fin 8 := ⟨4 * d.toNat + s.val, by have := s.isLt; cases d <;> simp <;> omega⟩

/-- The source window of a link, at the share lent to the copy: the whole share of the rounded rows at the first hop, half of the landed window after. -/
def srcPts (c : Dev nD) : Link → sProp 𝕄
  | (d, ⟨0, _⟩, s) => pt c cc0_scratch3 (xset (xj d s)) fullShare (XS m c)
  | (d, ⟨1, _⟩, s) => LT d c (lset 0 s) fullShare.left (CT m d c)
  | (d, ⟨_ + 2, _⟩, s) => LT d c (lset 1 s) fullShare.left (CT m d c)

/-- The landed window of a link. -/
def landPts (c : Dev nD) (t : Link) : sProp 𝕄 := LT t.1 c (lset t.2.1 t.2.2) fullShare (CT m t.1 c)

/-- What the neighbour's signal hands over: its landing buffer. -/
def barPay (c : Dev nD) (d : Bool) : sProp 𝕄 := iprop(∃ f : Vec F S3x256x2048 .bf16, LT d (peer d c) Finset.univ fullShare f)

/-! ## The schedule -/

def payOf (c : Dev nD) : SemLoc sig → Bool → sProp 𝕄
  | .reg _, d => barPay (F := F) c d
  | .dma q, _ => match decode q with
    | none => iprop(emp)
    | some (false, t) => srcPts m c t
    | some (true, t) => landPts m c t

def ringRd : Rounds.Schedule (GSem nD τ sig) Bool 𝕄 where
  duties g r := if r = 0 ∧ g.1.2 = .tc then (match g.2 with | .reg _ => Finset.univ | .dma q => if (decode q).isSome then {false} else ∅) else ∅
  unitless _ := False
  amount g _ _ := match g.2 with | .reg _ => 1 | .dma _ => N
  payload g _ d := payOf m g.1.1 g.2 d
  amount_pos g _ _ _ := by
    match g.2 with
    | .reg _ => exact Nat.one_pos
    | .dma _ => exact N_pos

instance srcPts_storable (c : Dev nD) (t : Link) : BI.Storable (upEmb : UEmb _ 𝕄) (srcPts m c t) := by
  obtain ⟨d, h, s⟩ := t
  match h with
  | ⟨0, _⟩ => unfold srcPts; infer_instance
  | ⟨1, _⟩ => unfold srcPts; infer_instance
  | ⟨_ + 2, _⟩ => unfold srcPts; infer_instance

instance ringRd_payload_storable (g : GSem nD τ sig) (r : ℕ) (d : Bool) : BI.Storable (upEmb : UEmb _ 𝕄) ((ringRd m).payload g r d) := by
  show BI.Storable upEmb (payOf m g.1.1 g.2 d)
  match g.2 with
  | .reg _ => unfold payOf barPay; infer_instance
  | .dma q =>
    unfold payOf landPts
    dsimp only
    split <;> infer_instance

section Sched
variable (c : Dev nD) (t : Link)

theorem duties_bar : (ringRd m).duties (barCell c) 0 = Finset.univ := by dsimp only [ringRd]; exact if_pos ⟨rfl, rfl⟩
theorem duties_snd : (ringRd m).duties (sndCell t c) 0 = {false} := by
  dsimp only [ringRd]
  rw [if_pos ⟨rfl, rfl⟩, decode_rsem]; rfl
theorem duties_rcv : (ringRd m).duties (rcvCell t c) 0 = {false} := by
  dsimp only [ringRd]
  rw [if_pos ⟨rfl, rfl⟩, decode_rsem]; rfl
theorem duties_later (g : GSem nD τ sig) : ∀ r, 1 ≤ r → (ringRd m).duties g r = ∅ := fun r hr => if_neg fun h => by omega

theorem payload_snd (d : Bool) : (ringRd m).payload (sndCell t c) 0 d = srcPts m c t := by
  show (match decode (rsem false t) with | none => iprop(emp) | some (false, t) => srcPts m c t | some (true, t) => landPts m c t) = _
  rw [decode_rsem]
theorem payload_rcv (d : Bool) : (ringRd m).payload (rcvCell t c) 0 d = landPts m c t := by
  show (match decode (rsem true t) with | none => iprop(emp) | some (false, t) => srcPts m c t | some (true, t) => landPts m c t) = _
  rw [decode_rsem]

theorem expect_bar : (ringRd m).expect (barCell c) 0 = 2 := by
  unfold Schedule.expect Schedule.amountOf
  rw [duties_bar]; rfl
theorem expect_snd : (ringRd m).expect (sndCell t c) 0 = N := by
  unfold Schedule.expect Schedule.amountOf; rw [duties_snd, Finset.sum_singleton]; rfl
theorem expect_rcv : (ringRd m).expect (rcvCell t c) 0 = N := by
  unfold Schedule.expect Schedule.amountOf; rw [duties_rcv, Finset.sum_singleton]; rfl

theorem rest_bar : bigSep ((ringRd m).duties (barCell c) 0 \ ∅) (fun d => (ringRd m).payload (barCell c) 0 d) = iprop(barPay (F := F) c false ∗ barPay (F := F) c true) := by
  rw [Finset.sdiff_empty, duties_bar, bigSep_univ_eq_bigSepL [false, true] (by decide) (by decide), bigSepL_cons_cons, bigSepL_singleton]
  rfl
theorem rest_snd : bigSep ((ringRd m).duties (sndCell t c) 0 \ ∅) (fun d => (ringRd m).payload (sndCell t c) 0 d) = srcPts m c t := by
  rw [Finset.sdiff_empty, duties_snd, bigSep_singleton, payload_snd]
theorem rest_rcv : bigSep ((ringRd m).duties (rcvCell t c) 0 \ ∅) (fun d => (ringRd m).payload (rcvCell t c) 0 d) = landPts m c t := by
  rw [Finset.sdiff_empty, duties_rcv, bigSep_singleton, payload_rcv]

end Sched

/-! ## Debts and levels -/

/-- One payment a device makes to another: a signal, or a copy's landing. -/
inductive Pay
  | sig (d : Bool)
  | snd (t : Link)
  deriving DecidableEq

/-- The cell a payment of device `c` raises, and by how much. -/
def payCell (c : Dev nD) : Pay → GSem nD τ sig
  | .sig d => barCell (peer (!d) c)
  | .snd t => rcvCell t (peer t.1 c)
def payAmt : Pay → ℕ
  | .sig _ => 1
  | .snd _ => N

/-- What device `c` owes while the payments `ps` are ahead of it. -/
def debt (c : Dev nD) : List Pay → CellTallies nD τ sig Unit
  | [] => 0
  | p :: ps => debt c ps + tallyAt (payCell c p) () (payAmt p)

def hopPays (h : Fin 3) : List Pay :=
  [.snd (false, h, 0), .snd (true, h, 0), .snd (false, h, 1), .snd (true, h, 1), .snd (false, h, 2), .snd (true, h, 2), .snd (false, h, 3), .snd (true, h, 3)]
def allPays : List Pay := .sig false :: .sig true :: (hopPays 0 ++ hopPays 1 ++ hopPays 2)

def L (g : GSem nD τ sig) : Finset Unit := if g.1.2 = .tc then {()} else ∅
/-- The order in which cells are waited on: barrier cells at 1, receive cells above them by hop, everything else at 0. -/
def lv (g : GSem nD τ sig) (_ : Unit) : ℕ :=
  match g.2 with
  | .reg _ => 1
  | .dma q => match decode q with
    | none => 0
    | some (false, _) => 0
    | some (true, t) => 2 + t.2.1.val

theorem L_of_ne (g : GSem nD τ sig) (h : g.1.2 ≠ .tc) : L g = ∅ := if_neg h
theorem L_tc (c : Dev nD) (sm : SemLoc sig) : L ((c : Thread nD τ), sm) = {()} := if_pos rfl

/-- The level of the cell a payment raises. -/
def payLv : Pay → ℕ
  | .sig _ => 1
  | .snd t => 2 + t.2.1.val

theorem lv_pay (c : Dev nD) (p : Pay) : lv (payCell c p) () = payLv p := by
  cases p with
  | sig d => rfl
  | snd t =>
    show (match decode (rsem true t) with | none => 0 | some (false, _) => 0 | some (true, t) => 2 + t.2.1.val) = _
    rw [decode_rsem]; rfl
theorem tc_pay (c : Dev nD) (p : Pay) : (payCell c p).1.2 = .tc := by cases p <;> rfl

theorem debt_pos {c : Dev nD} {ps : List Pay} {g : GSem nD τ sig} {u : Unit} (h : 0 < debt c ps g u) : ∃ p ∈ ps, g = payCell c p := by
  induction ps with
  | nil => exact absurd h (Nat.lt_irrefl 0)
  | cons p ps ih =>
    rw [debt, Pi.add_apply, Finsupp.add_apply, tallyAt_apply] at h
    by_cases hg : g = payCell c p
    · exact ⟨p, List.mem_cons_self, hg⟩
    · rw [if_neg (fun h' => hg h'.1)] at h
      obtain ⟨p', hp', e⟩ := ih h
      exact ⟨p', List.mem_cons_of_mem _ hp', e⟩

/-- A wait on a cell below every payment still ahead. -/
theorem mayWait (c : Dev nD) (sm : SemLoc sig) (ps : List Pay) (h : ∀ p ∈ ps, lv ((c : Thread nD τ), sm) () < payLv p) :
    (levAts L lv : sProp 𝕄) ⊢ MayWait (c : Thread nD τ) sm () (debt c ps) :=
  MayOwe.of_cut (L := L) (lev := lv) (lv ((c : Thread nD τ), sm) ()) (fun p hp => by rw [Finset.mem_singleton.mp hp, L_tc]; exact Finset.mem_singleton_self _)
    (fun g u hg => by
      obtain ⟨p, -, rfl⟩ := debt_pos hg
      rw [L, if_pos (tc_pay c p)]; exact Finset.mem_singleton_self _)
    (fun p hp => by rw [Finset.mem_singleton.mp hp])
    (fun g u hg => by
      obtain ⟨p, hp, rfl⟩ := debt_pos hg
      exact (h p hp).trans_eq (lv_pay c p).symm)

/-- What a device owes, whatever it has waited on. -/
def own (c : Dev nD) (ps : List Pay) : sProp 𝕄 := iprop(∃ W : Waits sig Unit, owes (c : Thread nD τ) (debt c ps) W)

/-! ## What every device knows -/

/-- The invariants of all cells, that all are at round 0, and the levels. -/
def env (K : Dev nD × Slot → ℕ) : sProp 𝕄 :=
  iprop((bigSep Finset.univ fun x : Dev nD × Slot => iprop(cellInv ER (ringRd m) (K x) (cell x) ∗ reached ER (cell x) 0)) ∗ levAts L lv)

instance env_persistent (K : Dev nD × Slot → ℕ) : BI.Persistent (env m K) := by unfold env; infer_instance

theorem env_at (K : Dev nD × Slot → ℕ) (x : Dev nD × Slot) : env m K ⊢ iprop(cellInv ER (ringRd m) (K x) (cell x) ∗ reached ER (cell x) 0) := by
  unfold env
  exact sep_elim_left.trans (bigSep_elim (Finset.mem_univ x) (Φ := fun x : Dev nD × Slot => iprop(cellInv ER (ringRd m) (K x) (cell x) ∗ reached ER (cell x) 0)))

theorem env_lev (K : Dev nD × Slot → ℕ) : env m K ⊢ levAts L lv := by
  unfold env
  iintro ⟨-, H⟩
  iexact H

end Cert.RingMM

end
-- ==== Proof.Steps.lean ====
/-
  One lemma per kind of operation the kernel makes: what it takes, what it gives, stated for any device, direction, hop and window, so that the body's proof
  is one application an operation.
-/
module

public import proofs.«01_k».proof.Proof.Protocol

@[expose] public section

noncomputable section

namespace Cert.RingMM

open Cert.KernelIdeal Cert.KernelIdeal.Gen
open Idealize.ShloMosaic Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

local notation "𝕄" => MT nD τ sig Unit (Elt F) ℕ UU ℕ

/-- A device's program `p`, run to `Q`. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

abbrev S64 : Fin 2 → ℕ := S64x2048.size

/-- A block of 64 rows of a 512-row buffer. -/
abbrev xwin {sp : Space} (b : Memref sig .tc sp S512x2048 .f32) (off : Fin S512x2048.rank → ℕ) (inb : ∀ a, off a + S64x2048.size a ≤ S512x2048.size a) : Memref sig .tc sp S64x2048 .f32 :=
  b.slice (Rect.unit (s := S512x2048) off S64x2048.size inb) (fun _ => rfl)

/-! ## Copies within a device -/

/-- A wait for a copy a device made within itself. -/
theorem local_wait (K : Dev nD × Slot → ℕ) (c : Dev nD) (ps : List Pay) (hps : ∀ p ∈ ps, 0 < payLv p) {q : DmaSem sig} (hq : decode q = none)
    {sp sp' : Space} {s s' : Shape} {e e' : EltTy} {src : Memref sig .tc sp' s' e'} {dst : Memref sig .tc sp s e} {hsrc : src.view.WordExact} {hdst : dst.view.WordExact}
    {n : ℕ} (hn : dst.view.dmaCredit = n) {D : sProp 𝕄} {α : Type} {Q : α → sProp 𝕄} {k : PUnit → Prog (TpuEff nD τ sig (Elt F) Λ₀ .tc) α} :
    Transfers.Flight (EC (F := F)) (c : Thread nD τ) (.dma q) () n D
      ⊢ iprop(env m K -∗ own c ps -∗ (iprop(D ∗ semVal ((c : Thread nD τ), .dma q) 0 ∗ own c ps) -∗ Run c (k ⟨⟩) Q)
          -∗ Run c (.op (.waitDma2 q src dst hsrc hdst) k) Q) := by
  have h0 : ∀ p ∈ ps, lv ((c : Thread nD τ), .dma q) () < payLv p := fun p hp => by
    have e : lv ((c : Thread nD τ), .dma q) () = 0 := by dsimp only [lv]; rw [hq]
    rw [e]; exact hps p hp
  iintro Hf #HE HO Hk
  unfold own
  icases HO with ⟨%W, HO⟩
  iapply (Transfers.wp_waitLocalO (EC (F := F)) 𝒱₀ (c : Thread nD τ) none (defs := defs₀) () hn (O := debt c ps) (W := W)) $$ [Hf HO]
  · isplitl [Hf]; · iexact Hf
    isplitl [HO]; · iexact HO
    iapply (mayWait (F := F) c (.dma q) ps h0)
    iapply (env_lev m K) $$ HE
  iintro ⟨HD, Hv, HO⟩
  iapply Hk
  isplitl [HD]; · iexact HD
  isplitl [Hv]; · iexact Hv
  iexists _; iexact HO

/-- The input copy of a block of 64 rows: what it starts from, -/
def xIn (c : Dev nD) (j : Fin 8) : sProp 𝕄 :=
  iprop(pt c main_arg0 (xset j) fullShare (X m c) ∗ (∃ f, pt c cc0_scratch0 (xset j) fullShare f) ∗ semVal ((c : Thread nD τ), .dma (xS j)) 0)
/-- what it delivers, -/
def xOut (c : Dev nD) (j : Fin 8) : sProp 𝕄 := iprop(pt c cc0_scratch0 (xset j) fullShare (X m c) ∗ pt c main_arg0 (xset j) fullShare (X m c))
abbrev NX : ℕ := (xwin xM ![0, 0] inb_S512x2048_S64x2048_0_0).view.dmaCredit
/-- and the copy under way. -/
def xFl (c : Dev nD) (j : Fin 8) : sProp 𝕄 := Transfers.Flight (EC (F := F)) (c : Thread nD τ) (.dma (xS j)) () NX (xOut m c j)

theorem xwin_read (c : Dev nD) (off : Fin S512x2048.rank → ℕ) (inb) :
    (xwin xM off inb).view.read (Elt F) (X m c) = (xwin x0M off inb).view.read (Elt F) (X m c) := rfl

theorem x_start (c : Dev nD) (j : Fin 8) {off : Fin S512x2048.rank → ℕ} {inb inb'} (ho : off = ![64 * j.val, 0]) {q : DmaSem sig} (hq : q = xS j)
    {hsrc : (xwin x0M off inb).view.WordExact} {hdst : (xwin xM off inb').view.WordExact} {hsem}
    {α : Type} {Q : α → sProp 𝕄} {k : PUnit → Prog (TpuEff nD τ sig (Elt F) Λ₀ .tc) α} :
    xIn m c j ⊢ iprop((xFl m c j -∗ Run c (k ⟨⟩) Q) -∗ Run c (.op (.enqueueDma (xwin x0M off inb) (.here (xwin xM off inb')) (.dma q) hsrc hdst hsem) k) Q) := by
  subst hq
  have e : (xwin x0M off inb).view.set = xset j := (View.set_slice_whole _ _).trans (xset_eq j off inb ho)
  have e' : (xwin xM off inb').view.set = xset j := (View.set_slice_whole _ _).trans (xset_eq j off inb ho)
  unfold xIn
  iintro ⟨Hx, ⟨%f, Hd⟩, Hv⟩ Hk
  iapply (Transfers.wp_dmaLocal (EC (F := F)) 𝒱₀ (c : Thread nD τ) none (defs := defs₀) (src := xwin x0M off inb) (dst := xwin xM off inb') (sm := .dma (xS j)) (via := .same)
    (q := fullShare) (fs := X m c) (Sd := xset j) (fd := f) () NX rfl (View.dmaCredit_pos _ (by decide)) e'.subset) $$ [Hx Hd Hv]
  · isplitl [Hx]
    · ihave H := (Entails.of_eq (congrArg (fun S => (pt c main_arg0 S fullShare (X m c) : sProp 𝕄)) e.symm)) $$ Hx
      iexact H
    isplitl [Hd]; · iexact Hd
    iexact Hv
  iintro Hf
  iapply Hk
  unfold xFl
  have hd : ∀ i ∈ xset j, (xwin xM off inb').view.write (Elt F) f ((xwin x0M off inb).view.read (Elt F) (X m c)) Finset.univ i = X m c i :=
    fun i hi => write_of_read (v := (xwin xM off inb').view) (xwin_read m c off inb) f i (by rw [e']; exact hi)
  iapply (Transfers.Flight_mono (EC (F := F)) (c : Thread nD τ) (BI.sep_mono
    (Entails.of_eq (pointsTo_congr hd))
    (Entails.of_eq (congrArg (fun S => (pt c main_arg0 S fullShare (X m c) : sProp 𝕄)) e)))) $$ Hf

/-! ## Rounding a block -/

theorem cast_step (c : Dev nD) (j : Fin 8) {off off' : Fin S512x2048.rank → ℕ} {inb inb'} (ho : off = ![64 * j.val, 0]) (ho' : off' = off) {pay : Vec F S64x2048 .f32 → Vec F S64x2048 .bf16}
    (hpay : pay = k0_pay1) {h1 h2 h3 h4} {α : Type} {Q : α → sProp 𝕄} {k : PUnit → Prog (TpuEff nD τ sig (Elt F) Λ₀ .tc) α} :
    xOut m c j ⊢ iprop((∃ f, pt c cc0_scratch3 (xset j) fullShare f)
      -∗ (iprop(xOut m c j ∗ pt c cc0_scratch3 (xset j) fullShare (XS m c)) -∗ Run c (k ⟨⟩) Q)
      -∗ Run c (.op (.load xM (Rect.unit (s := S512x2048) off S64x2048.size inb).toLoadRect h1) fun a =>
          .op (.load sM (Rect.unit (s := S512x2048) off' S64x2048.size inb').toLoadRect h2) fun _ =>
          .op (.store sM (Rect.unit (s := S512x2048) off' S64x2048.size inb') (pay a) Finset.univ h3 h4) k) Q) := by
  subst ho' hpay
  have e : (xM.access (Rect.unit (s := S512x2048) off' S64x2048.size inb)).set = xset j := (View.set_slice_whole _ _).trans (xset_eq j _ inb ho)
  have e' : (sM.access (Rect.unit (s := S512x2048) off' S64x2048.size inb')).set = xset j := (View.set_slice_whole _ _).trans (xset_eq j _ inb ho)
  unfold xOut
  iintro ⟨Hx, Ha⟩ ⟨%f, Hs⟩ Hk
  iapply (wp_load (defs := defs₀) 𝒱₀ (c : Thread nD τ) none Set.univ (m := xM) (S := xset j) (by rw [← e]; exact (View.set_slice _ _).symm.subset)) $$ Hx; iintro Hx
  iapply (wp_load (defs := defs₀) 𝒱₀ (c : Thread nD τ) none Set.univ (m := sM) (S := xset j) (by rw [← e']; exact (View.set_slice _ _).symm.subset)) $$ Hs; iintro Hs
  iapply (wp_store (defs := defs₀) 𝒱₀ (c : Thread nD τ) none Set.univ (m := sM) (r := Rect.unit (s := S512x2048) off' S64x2048.size inb') (Mk := Finset.univ) e'.subset) $$ Hs; iintro Hs
  iapply Hk
  isplitl [Hx Ha]; · isplitl [Hx] <;> iassumption
  have hw : ∀ i ∈ xset j, (sM.access (Rect.unit (s := S512x2048) off' S64x2048.size inb')).write (Elt F) f
      (k0_pay1 (xM.view.readAt (Elt F) (Rect.unit (s := S512x2048) off' S64x2048.size inb).toLoadRect (X m c))) Finset.univ i = XS m c i :=
    fun i hi => write_of_read (v := sM.access (Rect.unit (s := S512x2048) off' S64x2048.size inb')) (cast_read m c off' inb' inb) f i (by rw [e']; exact hi)
  iapply (Entails.of_eq (pointsTo_congr hw)) $$ Hs

/-! ## The copy of `w` -/

def wIn (c : Dev nD) : sProp 𝕄 :=
  iprop(pt c main_arg1 Finset.univ fullShare (Wt m c) ∗ (∃ f, pt c cc0_scratch1 Finset.univ fullShare f) ∗ semVal ((c : Thread nD τ), .dma wS) 0)
def wOut (c : Dev nD) : sProp 𝕄 := iprop(pt c cc0_scratch1 Finset.univ fullShare (Wt m c) ∗ pt c main_arg1 Finset.univ fullShare (Wt m c))
abbrev NW : ℕ := wM.view.dmaCredit
def wFl (c : Dev nD) : sProp 𝕄 := Transfers.Flight (EC (F := F)) (c : Thread nD τ) (.dma wS) () NW (wOut m c)

theorem w_start (c : Dev nD) {q : DmaSem sig} (hq : q = wS)
    {hsrc : w0M.view.WordExact} {hdst : wM.view.WordExact} {hsem}
    {α : Type} {Q : α → sProp 𝕄} {k : PUnit → Prog (TpuEff nD τ sig (Elt F) Λ₀ .tc) α} :
    wIn m c ⊢ iprop((wFl m c -∗ Run c (k ⟨⟩) Q) -∗ Run c (.op (.enqueueDma w0M (.here wM) (.dma q) hsrc hdst hsem) k) Q) := by
  subst hq
  have e : w0M.view.set = Finset.univ := View.set_whole _
  have e' : wM.view.set = Finset.univ := View.set_whole _
  unfold wIn
  iintro ⟨Hx, ⟨%f, Hd⟩, Hv⟩ Hk
  iapply (Transfers.wp_dmaLocal (EC (F := F)) 𝒱₀ (c : Thread nD τ) none (defs := defs₀) (src := w0M) (dst := wM) (sm := .dma wS) (via := .same)
    (q := fullShare) (fs := Wt m c) (Sd := Finset.univ) (fd := f) () NW rfl (View.dmaCredit_pos _ (by decide)) e'.subset) $$ [Hx Hd Hv]
  · isplitl [Hx]
    · ihave H := (Entails.of_eq (congrArg (fun S => (pt c main_arg1 S fullShare (Wt m c) : sProp 𝕄)) e.symm)) $$ Hx
      iexact H
    isplitl [Hd]; · iexact Hd
    iexact Hv
  iintro Hf
  iapply Hk
  unfold wFl
  have hr : wM.view.read (Elt F) (Wt m c) = w0M.view.read (Elt F) (Wt m c) := rfl
  have hd : ∀ i ∈ Finset.univ, wM.view.write (Elt F) f (w0M.view.read (Elt F) (Wt m c)) Finset.univ i = Wt m c i :=
    fun i hi => write_of_read (v := wM.view) hr f i (by rw [e']; exact hi)
  iapply (Transfers.Flight_mono (EC (F := F)) (c : Thread nD τ) (BI.sep_mono
    (Entails.of_eq (pointsTo_congr hd))
    (Entails.of_eq (congrArg (fun S => (pt c main_arg1 S fullShare (Wt m c) : sProp 𝕄)) e)))) $$ Hf

/-! ## The products -/

/-- A block of the result: what its store and its copy out start from, -/
def oIn (c : Dev nD) (b : Blk) : sProp 𝕄 :=
  iprop((∃ f, pt c cc0_scratch2 (oset c b) fullShare f) ∗ (∃ f, pt c main_v1 (oset c b) fullShare f) ∗ semVal ((c : Thread nD τ), .dma (oS b)) 0)
/-- what the copy delivers, -/
def oOut (c : Dev nD) (b : Blk) : sProp 𝕄 := iprop(pt c main_v1 (oset c b) fullShare (OUT m c) ∗ pt c cc0_scratch2 (oset c b) fullShare (OUT m c))
def NO (b : Blk) : ℕ := (main_v1 : Ref sig .tc).dmaCredit ⟨2, ![rows b, 512]⟩ .f32
/-- and the copy under way. -/
def oFl (c : Dev nD) (b : Blk) : sProp 𝕄 := Transfers.Flight (EC (F := F)) (c : Thread nD τ) (.dma (oS b)) () (NO b) (oOut m c b)

theorem rows_pos (b : Blk) : 0 < (⟨2, ![rows b, 512]⟩ : Shape).numel := by
  cases b <;> (simp only [rows]; decide)

/-- A block of the result stored and its copy out started. -/
theorem o_step (c : Dev nD) (b : Blk) {o o' size : Fin S2048x512.rank → ℕ} {inb inb'} (ho : o = ![off c b, 0]) (ho' : o' = ![off c b, 0]) (hs : size = ![rows b, 512])
    {q : DmaSem sig} (hq : q = oS b) {w : (Rect.unit (s := S2048x512) o size inb).shape.Idx → Elt F .f32}
    (hw : (oM.access (Rect.unit (s := S2048x512) o size inb)).read (Elt F) (OUT m c) = w) {h1 h2 h3}
    {hsrc : (oM.slice (Rect.unit (s := S2048x512) o' size inb') (fun _ => rfl)).view.WordExact} {hdst : (o0M.slice (Rect.unit (s := S2048x512) o' size inb') (fun _ => rfl)).view.WordExact}
    {hsem} {α : Type} {Q : α → sProp 𝕄} {k : PUnit → Prog (TpuEff nD τ sig (Elt F) Λ₀ .tc) α} :
    oIn c b ⊢ iprop((oFl m c b -∗ Run c (k ⟨⟩) Q)
      -∗ Run c (.op (.load oM (Rect.unit (s := S2048x512) o size inb).toLoadRect h1) fun _ =>
          .op (.store oM (Rect.unit (s := S2048x512) o size inb) w Finset.univ h2 h3) fun _ =>
          .op (.enqueueDma (oM.slice (Rect.unit (s := S2048x512) o' size inb') (fun _ => rfl)) (.here (o0M.slice (Rect.unit (s := S2048x512) o' size inb') (fun _ => rfl)))
            (.dma q) hsrc hdst hsem) k) Q) := by
  subst hq
  have ea : (oM.access (Rect.unit (s := S2048x512) o size inb)).set = oset c b := (View.set_slice_whole _ _).trans (oset_eq c b o size inb ho hs)
  have e : (oM.slice (Rect.unit (s := S2048x512) o' size inb') (fun _ => rfl)).view.set = oset c b := (View.set_slice_whole _ _).trans (oset_eq c b o' size inb' ho' hs)
  have e' : (o0M.slice (Rect.unit (s := S2048x512) o' size inb') (fun _ => rfl)).view.set = oset c b := (View.set_slice_whole _ _).trans (oset_eq c b o' size inb' ho' hs)
  have hN : (o0M.slice (Rect.unit (s := S2048x512) o' size inb') (fun _ => rfl)).view.amount (.dma (oS b)) = NO b := by subst hs; rfl
  have hN0 : 0 < NO b := by rw [← hN]; exact View.dmaCredit_pos _ (by subst hs; exact rows_pos b)
  unfold oIn
  iintro ⟨⟨%f, Hx⟩, ⟨%g, Hd⟩, Hv⟩ Hk
  iapply (wp_load (defs := defs₀) 𝒱₀ (c : Thread nD τ) none Set.univ (m := oM) (S := oset c b) (by rw [← ea]; exact (View.set_slice _ _).symm.subset)) $$ Hx; iintro Hx
  iapply (wp_store (defs := defs₀) 𝒱₀ (c : Thread nD τ) none Set.univ (m := oM) (r := Rect.unit (s := S2048x512) o size inb) (Mk := Finset.univ) ea.subset) $$ Hx; iintro Hx
  have hx : ∀ i ∈ oset c b, (oM.access (Rect.unit (s := S2048x512) o size inb)).write (Elt F) f w Finset.univ i = OUT m c i :=
    fun i hi => write_of_read (v := oM.access (Rect.unit (s := S2048x512) o size inb)) hw f i (by rw [ea]; exact hi)
  ihave Hx := (Entails.of_eq (pointsTo_congr hx)) $$ Hx
  iapply (Transfers.wp_dmaLocal (EC (F := F)) 𝒱₀ (c : Thread nD τ) none (defs := defs₀) (src := oM.slice (Rect.unit (s := S2048x512) o' size inb') (fun _ => rfl))
    (dst := o0M.slice (Rect.unit (s := S2048x512) o' size inb') (fun _ => rfl)) (sm := .dma (oS b)) (via := .same)
    (q := fullShare) (fs := OUT m c) (Sd := oset c b) (fd := g) () (NO b) hN hN0 e'.subset) $$ [Hx Hd Hv]
  · isplitl [Hx]
    · ihave H := (Entails.of_eq (congrArg (fun S => (pt c cc0_scratch2 S fullShare (OUT m c) : sProp 𝕄)) e.symm)) $$ Hx
      iexact H
    isplitl [Hd]; · iexact Hd
    iexact Hv
  iintro Hf
  iapply Hk
  unfold oFl
  have hr : (o0M.slice (Rect.unit (s := S2048x512) o' size inb') (fun _ => rfl)).view.read (Elt F) (OUT m c)
      = (oM.slice (Rect.unit (s := S2048x512) o' size inb') (fun _ => rfl)).view.read (Elt F) (OUT m c) := rfl
  have hd : ∀ i ∈ oset c b, (o0M.slice (Rect.unit (s := S2048x512) o' size inb') (fun _ => rfl)).view.write (Elt F) g
      ((oM.slice (Rect.unit (s := S2048x512) o' size inb') (fun _ => rfl)).view.read (Elt F) (OUT m c)) Finset.univ i = OUT m c i :=
    fun i hi => write_of_read (v := (o0M.slice (Rect.unit (s := S2048x512) o' size inb') (fun _ => rfl)).view) hr g i (by rw [e']; exact hi)
  iapply (Transfers.Flight_mono (EC (F := F)) (c : Thread nD τ) (BI.sep_mono
    (Entails.of_eq (pointsTo_congr hd))
    (Entails.of_eq (congrArg (fun S => (pt c cc0_scratch2 S fullShare (OUT m c) : sProp 𝕄)) e)))) $$ Hf

end Cert.RingMM

end
-- ==== Proof.Remote.lean ====
/-
  One lemma per kind of operation between devices: a send, a relay, the wait for a landing, the wait for a sent window to come back, the signals that
  hand the landing buffers over and the wait for them.
-/
module

public import proofs.«01_k».proof.Proof.Steps

@[expose] public section

noncomputable section

namespace Cert.RingMM

open Cert.KernelIdeal Cert.KernelIdeal.Gen
open Idealize.ShloMosaic Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

local notation "𝕄" => MT nD τ sig Unit (Elt F) ℕ UU ℕ

/-! ## What a link's three operations start from -/

/-- To send over a link: the window it lands in, the right to raise the two cells, and the place at the send cell. -/
def sndR (c : Dev nD) (t : Link) : sProp 𝕄 :=
  iprop((∃ f : Vec F S3x256x2048 .bf16, LT t.1 (peer t.1 c) (lset t.2.1 t.2.2) fullShare f)
    ∗ (dutyTok ER (sndCell t c) 0 false ∗ dutyTok ER (rcvCell t (peer t.1 c)) 0 false) ∗ atPos ER (sndCell t c) 0 ∅ 0)
/-- To wait for a link's landing. -/
def rcvR (c : Dev nD) (t : Link) : sProp 𝕄 := iprop(atPos ER (rcvCell t c) 0 ∅ 0 ∗ cred (tallyAt (rcvCell t c) () N))
/-- To wait for a sent window to come back. -/
def sent (c : Dev nD) (t : Link) : sProp 𝕄 := iprop(atPos ER (sndCell t c) 0 ∅ 0 ∗ cred (tallyAt (sndCell t c) () N))

/-! ## Sending -/

theorem amount_lwin (d : Bool) (off inb) (q : DmaSem sig) : (lwin d off inb).view.amount (.dma q) = N := by cases d <;> rfl

/-- A copy to the neighbour of a link, between any two windows: the window landed in, read at `G`, is the source's reading. -/
theorem send_core (K : Dev nD × Slot → ℕ) (c : Dev nD) (t : Link) (ps : List Pay) {n : Dev nD} (hn : n = peer t.1 c) {src dst : Memref sig .tc .vmem S64x2048 .bf16}
    {q1 q2 : DmaSem sig} (hq1 : q1 = rsem false t) (hq2 : q2 = rsem true t) (hN : dst.view.amount (.dma q2) = N)
    {q : PosShare TreeShare} {fs : src.view.ty.Contents (Elt F)} {G : dst.view.ty.Contents (Elt F)} (hr : dst.view.read (Elt F) G = src.view.read (Elt F) fs)
    (hsP : (iprop(src.view.loc (c : Thread nD τ) ↦[src.view.set]{q} fs) : sProp 𝕄) ⊢ srcPts m c t)
    (hdP : (iprop(dst.view.loc (peer t.1 c : Thread nD τ) ↦[dst.view.set]{fullShare} G) : sProp 𝕄) ⊢ landPts m (peer t.1 c) t)
    {hsc : (dst : Memref sig (Dev.tc n : Thread nD τ).2.kind .vmem S64x2048 .bf16).view.ref.isScScratch = false}
    {hsrc : src.view.WordExact} {hdst : dst.view.WordExact}
    {hsem : DmaTarget.Typed .vmem (.dma q2) (.remote (Dev.tc n : Thread nD τ) dst (.dma q1) hsc)}
    {α : Type} {Q : α → sProp 𝕄} {k : PUnit → Prog (TpuEff nD τ sig (Elt F) Λ₀ .tc) α} :
    (iprop(src.view.loc (c : Thread nD τ) ↦[src.view.set]{q} fs) : sProp 𝕄)
      ⊢ iprop(env m K -∗ iprop(∃ fd, dst.view.loc (peer t.1 c : Thread nD τ) ↦[dst.view.set]{fullShare} fd)
          -∗ iprop(dutyTok ER (sndCell t c) 0 false ∗ dutyTok ER (rcvCell t (peer t.1 c)) 0 false) -∗ own c (.snd t :: ps)
          -∗ (iprop(cred (tallyAt (sndCell t c) () N) ∗ own c ps) -∗ Run c (k ⟨⟩) Q)
          -∗ Run c (.op (.enqueueDma src (.remote (Dev.tc n) dst (.dma q1) hsc) (.dma q2) hsrc hdst hsem) k) Q) := by
  subst hn hq1 hq2
  iintro Hx #HE ⟨%fd, Hd⟩ ⟨Ht1, Ht2⟩ HO Hk
  unfold own
  icases HO with ⟨%W, HO⟩
  ihave ⟨#Hi1, #Hr1⟩ := (env_at m K (c, some (false, t))) $$ HE
  ihave ⟨#Hi2, #Hr2⟩ := (env_at m K (peer t.1 c, some (true, t))) $$ HE
  have hd : ∀ i ∈ dst.view.set, dst.view.write (Elt F) fd (src.view.read (Elt F) fs) Finset.univ i = G i := write_of_read hr fd
  iapply (Rounds.wp_send_pointsTo (defs := defs₀) 𝒱₀ ER (ringRd m) (c : Thread nD τ) none (κ₁ := K (c, some (false, t))) (κ₂ := K (peer t.1 c, some (true, t)))
    (r₁ := 0) (r₂ := 0) (d₁ := false) (d₂ := false) (fd := fd)
    (by rw [duties_snd]; exact Finset.mem_singleton_self _) (by rw [duties_rcv]; exact Finset.mem_singleton_self _) () () N hN rfl rfl (debt c ps) rfl (W := W)
    (hsP.trans (Entails.of_eq (payload_snd m c t false).symm))
    ((Entails.of_eq (pointsTo_congr hd)).trans (hdP.trans (Entails.of_eq (payload_rcv m (peer t.1 c) t false).symm)))) $$ [Hx Hd HO Ht1 Ht2]
  · isplitr; · iexact Hi1
    isplitr; · iexact Hi2
    isplitl [Hx]; · iexact Hx
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W
  iexact HO

theorem lwin_set_f {h : Fin 3} {s : Fin 4} {lo : Fin S3x256x2048.rank → ℕ} {linb} (hlo : lo = ![h.val, 64 * s.val, 0]) : (lwin false lo linb).view.set = lset h s :=
  (View.set_reshape _ _).trans ((View.set_slice_whole _ _).trans (lset_eq h s lo linb hlo))
theorem lwin_set_t {h : Fin 3} {s : Fin 4} {lo : Fin S3x256x2048.rank → ℕ} {linb} (hlo : lo = ![h.val, 64 * s.val, 0]) : (lwin true lo linb).view.set = lset h s :=
  (View.set_reshape _ _).trans ((View.set_slice_whole _ _).trans (lset_eq h s lo linb hlo))

/-- A landing window, as the elements its memref addresses. -/
theorem LT_win (d : Bool) (c : Dev nD) {h : Fin 3} {s : Fin 4} {lo : Fin S3x256x2048.rank → ℕ} {linb} (hlo : lo = ![h.val, 64 * s.val, 0]) (q : PosShare TreeShare)
    (f : Vec F S3x256x2048 .bf16) :
    (iprop((lwin d lo linb).view.loc (c : Thread nD τ) ↦[(lwin d lo linb).view.set]{q} (lC d f)) : sProp 𝕄) = LT d c (lset h s) q f := by
  cases d
  · exact congrArg (fun S => (pt c cc0_scratch4 S q f : sProp 𝕄)) (lwin_set_f hlo)
  · exact congrArg (fun S => (pt c cc0_scratch5 S q f : sProp 𝕄)) (lwin_set_t hlo)

/-- The first hop: a window of the rounded rows goes to the next device. -/
theorem send_step (K : Dev nD × Slot → ℕ) (c : Dev nD) (d : Bool) (s : Fin 4) (ps : List Pay) {n : Dev nD} (hn : n = peer d c)
    {so : Fin S512x2048.rank → ℕ} {sinb} (hso : so = ![256 * d.toNat + 64 * s.val, 0]) {lo : Fin S3x256x2048.rank → ℕ} {linb} (hlo : lo = ![0, 64 * s.val, 0])
    {q1 q2 : DmaSem sig} (hq1 : q1 = rsem false (d, 0, s)) (hq2 : q2 = rsem true (d, 0, s))
    {hsc : (lwin d lo linb : Memref sig (Dev.tc n : Thread nD τ).2.kind .vmem S64x2048 .bf16).view.ref.isScScratch = false}
    {hsrc : (sM.slice (Rect.unit (s := S512x2048) so S64x2048.size sinb) (fun _ => rfl)).view.WordExact} {hdst : (lwin d lo linb).view.WordExact}
    {hsem : DmaTarget.Typed .vmem (.dma q2) (.remote (Dev.tc n : Thread nD τ) (lwin d lo linb) (.dma q1) hsc)}
    {α : Type} {Q : α → sProp 𝕄} {k : PUnit → Prog (TpuEff nD τ sig (Elt F) Λ₀ .tc) α} :
    pt c cc0_scratch3 (xset (xj d s)) fullShare (XS m c)
      ⊢ iprop(env m K -∗ sndR c (d, 0, s) -∗ own c (.snd (d, 0, s) :: ps) -∗ (iprop(sent c (d, 0, s) ∗ own c ps) -∗ Run c (k ⟨⟩) Q)
          -∗ Run c (.op (.enqueueDma (sM.slice (Rect.unit (s := S512x2048) so S64x2048.size sinb) (fun _ => rfl))
            (.remote (Dev.tc n) (lwin d lo linb) (.dma q1) hsc) (.dma q2) hsrc hdst hsem) k) Q) := by
  have e : (sM.slice (Rect.unit (s := S512x2048) so S64x2048.size sinb) (fun _ => rfl)).view.set = xset (xj d s) :=
    (View.set_slice_whole _ _).trans (xset_eq (xj d s) so sinb (hso.trans (by cases d <;> simp [xj, Nat.mul_add])))
  have e1 := congrArg (fun S => (pt c cc0_scratch3 S fullShare (XS m c) : sProp 𝕄)) e
  have hr := send_read m d s c lo linb hlo so sinb hso
  iintro Hx #HE Hs HO Hk
  unfold sndR
  icases Hs with ⟨⟨%f, Hd⟩, Ht, Hat⟩
  ihave Hx := (Entails.of_eq e1.symm) $$ Hx
  iapply (send_core m K c (d, 0, s) ps hn (src := sM.slice (Rect.unit (s := S512x2048) so S64x2048.size sinb) (fun _ => rfl)) (dst := lwin d lo linb) hq1 hq2
    (amount_lwin d lo linb q2) (G := lC d (CT m d (peer d c))) hr (Entails.of_eq e1) (Entails.of_eq (LT_win d (peer d c) (h := 0) hlo fullShare _))) $$ Hx HE [Hd] Ht HO
  · iexists (lC d f)
    iapply (Entails.of_eq (LT_win (linb := linb) d (peer d c) (h := 0) hlo fullShare f).symm) $$ Hd
  iintro ⟨Hc, HO⟩
  iapply Hk
  unfold sent
  isplitl [Hat Hc]
  · isplitl [Hat]; · iexact Hat
    iexact Hc
  iexact HO

/-- A later hop: a landed window goes on to the next device, half of its share lent. -/
theorem relay_step (K : Dev nD × Slot → ℕ) (c : Dev nD) (d : Bool) (h h' : Fin 3) (s : Fin 4) (ps : List Pay) {n : Dev nD} (hn : n = peer d c)
    (hh : origin d h (peer d c) = origin d h' c) (hp : srcPts m c (d, h, s) = LT d c (lset h' s) fullShare.left (CT m d c))
    {so : Fin S3x256x2048.rank → ℕ} {sinb} (hso : so = ![h'.val, 64 * s.val, 0]) {lo : Fin S3x256x2048.rank → ℕ} {linb} (hlo : lo = ![h.val, 64 * s.val, 0])
    {q1 q2 : DmaSem sig} (hq1 : q1 = rsem false (d, h, s)) (hq2 : q2 = rsem true (d, h, s))
    {hsc : (lwin d lo linb : Memref sig (Dev.tc n : Thread nD τ).2.kind .vmem S64x2048 .bf16).view.ref.isScScratch = false}
    {hsrc : (lwin d so sinb).view.WordExact} {hdst : (lwin d lo linb).view.WordExact}
    {hsem : DmaTarget.Typed .vmem (.dma q2) (.remote (Dev.tc n : Thread nD τ) (lwin d lo linb) (.dma q1) hsc)}
    {α : Type} {Q : α → sProp 𝕄} {k : PUnit → Prog (TpuEff nD τ sig (Elt F) Λ₀ .tc) α} :
    LT d c (lset h' s) fullShare.left (CT m d c)
      ⊢ iprop(env m K -∗ sndR c (d, h, s) -∗ own c (.snd (d, h, s) :: ps) -∗ (iprop(sent c (d, h, s) ∗ own c ps) -∗ Run c (k ⟨⟩) Q)
          -∗ Run c (.op (.enqueueDma (lwin d so sinb) (.remote (Dev.tc n) (lwin d lo linb) (.dma q1) hsc) (.dma q2) hsrc hdst hsem) k) Q) := by
  have e1 := LT_win (F := F) (linb := sinb) d c hso fullShare.left (CT m d c)
  have hr := relay_read m d h h' s c lo linb hlo so sinb hso hh
  iintro Hx #HE Hs HO Hk
  unfold sndR
  icases Hs with ⟨⟨%f, Hd⟩, Ht, Hat⟩
  ihave Hx := (Entails.of_eq e1.symm) $$ Hx
  iapply (send_core m K c (d, h, s) ps hn (src := lwin d so sinb) (dst := lwin d lo linb) hq1 hq2
    (amount_lwin d lo linb q2) (G := lC d (CT m d (peer d c))) hr (Entails.of_eq (e1.trans hp.symm)) (Entails.of_eq (LT_win d (peer d c) hlo fullShare _))) $$ Hx HE [Hd] Ht HO
  · iexists (lC d f)
    iapply (Entails.of_eq (LT_win (linb := linb) d (peer d c) hlo fullShare f).symm) $$ Hd
  iintro ⟨Hc, HO⟩
  iapply Hk
  unfold sent
  isplitl [Hat Hc]
  · isplitl [Hat]; · iexact Hat
    iexact Hc
  iexact HO

/-! ## Waiting -/

/-- The wait for a landing: the landed window, and the cell at zero. -/
theorem recv_step (K : Dev nD × Slot → ℕ) (c : Dev nD) (t : Link) (ps : List Pay) (hps : ∀ p ∈ ps, 2 + t.2.1.val < payLv p) {q : DmaSem sig} (hq : q = rsem true t)
    {sp sp' : Space} {s s' : Shape} {e e' : EltTy} {src : Memref sig .tc sp' s' e'} {dst : Memref sig .tc sp s e} {hsrc : src.view.WordExact} {hdst : dst.view.WordExact}
    (hn : dst.view.dmaCredit = N) {α : Type} {Q : α → sProp 𝕄} {k : PUnit → Prog (TpuEff nD τ sig (Elt F) Λ₀ .tc) α} :
    rcvR c t ⊢ iprop(env m K -∗ own c ps -∗ (iprop(landPts m c t ∗ semVal (rcvCell t c) 0 ∗ own c ps) -∗ Run c (k ⟨⟩) Q)
          -∗ Run c (.op (.waitDma2 q src dst hsrc hdst) k) Q) := by
  subst hq
  have h0 : ∀ p ∈ ps, lv ((c : Thread nD τ), .dma (rsem true t)) () < payLv p := fun p hp => by
    have e : lv ((c : Thread nD τ), .dma (rsem true t)) () = 2 + t.2.1.val := by dsimp only [lv]; rw [decode_rsem]
    rw [e]; exact hps p hp
  unfold rcvR own
  iintro ⟨Hat, Hc⟩ #HE ⟨%W, HO⟩ Hk
  ihave ⟨#Hi, -⟩ := (env_at m K (c, some (true, t))) $$ HE
  iapply (Rounds.wp_wait_rest_token 𝒱₀ ER (ringRd m) (c : Thread nD τ) none (κ := K (c, some (true, t))) (wpE_waitDma2_eq (defs := defs₀) 𝒱₀ (c : Thread nD τ) none Set.univ)
    (Set.mem_univ _) () (O := debt c ps) (W := W) (R := 0) (m := 0) (T := ∅) (by rw [Nat.zero_add, hn, expect_rcv])) $$ [Hc Hat HO]
  · isplitr; · iexact Hi
    isplitl [Hc]; · rw [hn]; iexact Hc
    isplitl [HO]; · iexact HO
    isplitr
    · iapply (mayWait (F := F) c (.dma (rsem true t)) ps h0)
      iapply (env_lev m K) $$ HE
    iexact Hat
  iintro ⟨HO, Hat, -, Hp⟩
  ihave Hp := (Entails.of_eq (rest_rcv m c t)) $$ Hp
  imod (Rounds.cell_close ER (ringRd m) (Set.mem_univ (K (c, some (true, t)))) (fun h => h) (R := 0 + 1) (duties_later m (rcvCell t c))) $$ [Hat] with Hz
  · isplitr; · iexact Hi
    iexact Hat
  iapply Hk
  isplitl [Hp]; · iexact Hp
  isplitl [Hz]; · iexact Hz
  iexists _
  iexact HO

/-- The wait for a sent window to come back. -/
theorem drain_step (K : Dev nD × Slot → ℕ) (c : Dev nD) (t : Link) {q : DmaSem sig} (hq : q = rsem false t)
    {sp sp' : Space} {s s' : Shape} {e e' : EltTy} {src : Memref sig .tc sp' s' e'} {dst : Memref sig .tc sp s e} {hsrc : src.view.WordExact} {hdst : dst.view.WordExact}
    (hn : dst.view.dmaCredit = N) {α : Type} {Q : α → sProp 𝕄} {k : PUnit → Prog (TpuEff nD τ sig (Elt F) Λ₀ .tc) α} :
    sent c t ⊢ iprop(env m K -∗ own c [] -∗ (iprop(srcPts m c t ∗ semVal (sndCell t c) 0 ∗ own c []) -∗ Run c (k ⟨⟩) Q)
          -∗ Run c (.op (.waitDma2 q src dst hsrc hdst) k) Q) := by
  subst hq
  unfold sent own
  iintro ⟨Hat, Hc⟩ #HE ⟨%W, HO⟩ Hk
  ihave ⟨#Hi, -⟩ := (env_at m K (c, some (false, t))) $$ HE
  iapply (Rounds.wp_wait_rest_token 𝒱₀ ER (ringRd m) (c : Thread nD τ) none (κ := K (c, some (false, t))) (wpE_waitDma2_eq (defs := defs₀) 𝒱₀ (c : Thread nD τ) none Set.univ)
    (Set.mem_univ _) () (O := debt c []) (W := W) (R := 0) (m := 0) (T := ∅) (by rw [Nat.zero_add, hn, expect_snd])) $$ [Hc Hat HO]
  · isplitr; · iexact Hi
    isplitl [Hc]; · rw [hn]; iexact Hc
    isplitl [HO]; · iexact HO
    isplitr
    · iapply (mayWait (F := F) c (.dma (rsem false t)) [] (fun p hp => absurd hp List.not_mem_nil))
      iapply (env_lev m K) $$ HE
    iexact Hat
  iintro ⟨HO, Hat, -, Hp⟩
  ihave Hp := (Entails.of_eq (rest_snd m c t)) $$ Hp
  imod (Rounds.cell_close ER (ringRd m) (Set.mem_univ (K (c, some (false, t)))) (fun h => h) (R := 0 + 1) (duties_later m (sndCell t c))) $$ [Hat] with Hz
  · isplitr; · iexact Hi
    iexact Hat
  iapply Hk
  isplitl [Hp]; · iexact Hp
  isplitl [Hz]; · iexact Hz
  iexists _
  iexact HO

/-! ## The barrier -/

theorem barPay_intro (c : Dev nD) (d : Bool) (f : Vec F S3x256x2048 .bf16) : LT d c Finset.univ fullShare f ⊢ barPay (F := F) (peer (!d) c) d := by
  unfold barPay
  rw [peer_not']
  iintro H
  iexists f
  iexact H

/-- A signal to the neighbour that sends here in direction `d`: it hands over the landing buffer of that direction. -/
theorem signal_step (K : Dev nD × Slot → ℕ) (c : Dev nD) (d : Bool) (ps : List Pay) {n : Dev nD} (hn : n = peer (!d) c) {q : Sem sig} (hq : q = barS)
    {α : Type} {Q : α → sProp 𝕄} {k : PUnit → Prog (TpuEff nD τ sig (Elt F) Λ₀ .tc) α} :
    dutyTok ER (barCell (peer (!d) c)) 0 d
      ⊢ iprop(env m K -∗ (∃ f : Vec F S3x256x2048 .bf16, LT d c Finset.univ fullShare f) -∗ own c (.sig d :: ps) -∗ (own c ps -∗ Run c (k ⟨⟩) Q)
          -∗ Run c (.op (.semSignal (Dev.tc n : Thread nD τ) q (1#32 : BitVec 32).toInt) k) Q) := by
  subst hn hq
  unfold own
  iintro Ht #HE ⟨%f, Hf⟩ ⟨%W, HO⟩ Hk
  ihave ⟨#Hi, #Hr⟩ := (env_at m K (peer (!d) c, none)) $$ HE
  iapply (Rounds.wp_signal (defs := defs₀) 𝒱₀ ER (ringRd m) (c : Thread nD τ) none (dst := (Dev.tc (peer (!d) c) : Thread nD τ)) (κ := K (peer (!d) c, none)) (r := 0) (d := d)
    (by rw [duties_bar]; exact Finset.mem_univ _) ((show (ringRd m).amount (barCell (peer (!d) c)) 0 d = 1 from rfl).trans (by decide)) () (debt c ps) rfl (W := W)) $$ [Ht Hf HO]
  · isplitr; · iexact Hi
    isplitl [HO]; · iexact HO
    isplitl [Ht]; · iexact Ht
    isplitl [Hf]
    · iapply ((barPay_intro (F := F) c d f).trans (Entails.of_eq (show barPay (F := F) (peer (!d) c) d = (ringRd m).payload (barCell (peer (!d) c)) 0 d from rfl))) $$ Hf
    iexact Hr
  iintro HO
  iapply Hk
  iexists W
  iexact HO

/-- The wait for both neighbours' signals: their landing buffers, and the cell at zero. -/
theorem barrier_step (K : Dev nD × Slot → ℕ) (c : Dev nD) (ps : List Pay) (hps : ∀ p ∈ ps, 1 < payLv p) {q : Sem sig} (hq : q = barS)
    {α : Type} {Q : α → sProp 𝕄} {k : PUnit → Prog (TpuEff nD τ sig (Elt F) Λ₀ .tc) α} :
    iprop(atPos ER (barCell c) 0 ∅ 0 ∗ cred (tallyAt (barCell c) () 2))
      ⊢ iprop(env m K -∗ own c ps -∗ (iprop((barPay c false ∗ barPay c true) ∗ semVal (barCell c) 0 ∗ own c ps) -∗ Run c (k ⟨⟩) Q)
          -∗ Run c (.op (.semWait q (2#32 : BitVec 32).toInt) k) Q) := by
  subst hq
  unfold own
  iintro ⟨Hat, Hc⟩ #HE ⟨%W, HO⟩ Hk
  ihave ⟨#Hi, -⟩ := (env_at m K (c, none)) $$ HE
  iapply (Rounds.wp_wait_rest_token 𝒱₀ ER (ringRd m) (c : Thread nD τ) none (κ := K (c, none)) (wpE_semWait_eq (defs := defs₀) 𝒱₀ (c : Thread nD τ) none Set.univ)
    (Set.mem_univ _) () (O := debt c ps) (W := W) (R := 0) (m := 0) (T := ∅) (by rw [Nat.zero_add, expect_bar]; decide)) $$ [Hc Hat HO]
  · isplitr; · iexact Hi
    isplitl [Hc]; · iexact Hc
    isplitl [HO]; · iexact HO
    isplitr
    · iapply (mayWait (F := F) c (.reg barS) ps hps)
      iapply (env_lev m K) $$ HE
    iexact Hat
  iintro ⟨HO, Hat, -, Hp⟩
  ihave Hp := (Entails.of_eq (rest_bar m c)) $$ Hp
  imod (Rounds.cell_close ER (ringRd m) (Set.mem_univ (K (c, none))) (fun h => h) (R := 0 + 1) (duties_later m (barCell c))) $$ [Hat] with Hz
  · isplitr; · iexact Hi
    iexact Hat
  iapply Hk
  isplitl [Hp]; · iexact Hp
  isplitl [Hz]; · iexact Hz
  iexists _
  iexact HO

end Cert.RingMM

end
-- ==== Proof.Products.lean ====
/-
  The kernel's three kinds of products, each with the store of its block of the result and the start of that block's copy out.
-/
module

public import proofs.«01_k».proof.Proof.Steps

@[expose] public section

noncomputable section

namespace Cert.RingMM

open Cert.KernelIdeal Cert.KernelIdeal.Gen
open Idealize.ShloMosaic Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

local notation "𝕄" => MT nD τ sig Unit (Elt F) ℕ UU ℕ

/-- The product of the device's own rows, stored, and its copy out started. -/
theorem own_step (c : Dev nD) {ao : Fin S512x2048.rank → ℕ} {ainb} (hao : ao = ![0, 0])
    {wo : Fin S2048x512.rank → ℕ} {winb} (hwo : wo = ![0, 0])
    {o o' : Fin S2048x512.rank → ℕ} {inb inb'} (ho : o = ![off c .own, 0]) (ho' : o' = ![off c .own, 0])
    {qs : DmaSem sig} (hq : qs = oS .own) {pay : Vec F S512x2048 .f32 → Vec F S2048x512 .f32 → Vec F S512x512 .f32} (hpay : ∀ a w, pay a w = k0_pay11 (k0_pay10 a w)) {h1 h2 h3 h4 h5}
    {hsrc : (oM.slice (Rect.unit (s := S2048x512) o' S512x512.size inb') (fun _ => rfl)).view.WordExact} {hdst : (o0M.slice (Rect.unit (s := S2048x512) o' S512x512.size inb') (fun _ => rfl)).view.WordExact}
    {hsem} {α : Type} {Q : α → sProp 𝕄} {k : PUnit → Prog (TpuEff nD τ sig (Elt F) Λ₀ .tc) α} :
    pt c cc0_scratch0 Finset.univ fullShare (X m c) ⊢ iprop(pt c cc0_scratch1 Finset.univ fullShare (Wt m c) -∗ oIn c .own
      -∗ (iprop(pt c cc0_scratch0 Finset.univ fullShare (X m c) ∗ pt c cc0_scratch1 Finset.univ fullShare (Wt m c) ∗ oFl m c .own) -∗ Run c (k ⟨⟩) Q)
      -∗ Run c (.op (.load xM (Rect.unit (s := S512x2048) ao S512x2048.size ainb).toLoadRect h1) fun a =>
          .op (.load wM (Rect.unit (s := S2048x512) wo S2048x512.size winb).toLoadRect h2) fun w =>
          .op (.load oM (Rect.unit (s := S2048x512) o S512x512.size inb).toLoadRect h3) fun _ =>
          .op (.store oM (Rect.unit (s := S2048x512) o S512x512.size inb) (pay a w) Finset.univ h4 h5) fun _ =>
          .op (.enqueueDma (oM.slice (Rect.unit (s := S2048x512) o' S512x512.size inb') (fun _ => rfl)) (.here (o0M.slice (Rect.unit (s := S2048x512) o' S512x512.size inb') (fun _ => rfl)))
            (.dma qs) hsrc hdst hsem) k) Q) := by
  iintro Hx Hw Ho Hk
  iapply (wp_load (defs := defs₀) 𝒱₀ (c : Thread nD τ) none Set.univ (m := xM) (S := Finset.univ) (Finset.subset_univ _)) $$ Hx; iintro Hx
  iapply (wp_load (defs := defs₀) 𝒱₀ (c : Thread nD τ) none Set.univ (m := wM) (S := Finset.univ) (Finset.subset_univ _)) $$ Hw; iintro Hw
  rw [whole_read_x m c ao ainb hao, whole_read_w m c wo winb hwo, hpay]
  iapply (o_step m c .own ho ho' rfl hq (own_read m c o inb ho)) $$ Ho
  iintro Hf
  iapply Hk
  isplitl [Hx]; · iexact Hx
  isplitl [Hw]; · iexact Hw
  iexact Hf

/-- A load from a landing buffer. -/
theorem l_load (c : Dev nD) (d : Bool) {r : LoadRect S3x256x2048} {S : Finset S3x256x2048.Idx} (hS : r.set ⊆ S) {q : PosShare TreeShare} {f : Vec F S3x256x2048 .bf16} {h1}
    {α : Type} {Q : α → sProp 𝕄} {k : (r.shape.Idx → Elt F .bf16) → Prog (TpuEff nD τ sig (Elt F) Λ₀ .tc) α} :
    LT d c S q f ⊢ iprop((LT d c S q f -∗ Run c (k ((lM d).view.readAt (Elt F) r (lC d f))) Q) -∗ Run c (.op (.load (lM d) r h1) k) Q) := by
  cases d
  · exact wp_load (defs := defs₀) 𝒱₀ (c : Thread nD τ) none Set.univ (m := aM) (S := S) ((Finset.map_refl (s := r.set)).subset.trans hS)
  · exact wp_load (defs := defs₀) 𝒱₀ (c : Thread nD τ) none Set.univ (m := bM) (S := S) ((Finset.map_refl (s := r.set)).subset.trans hS)

/-- The product of a hop's rows, once all four windows have landed. -/
theorem hop_step (c : Dev nD) (d : Bool) (h : Fin 2) {q : PosShare TreeShare} {ao : Fin S3x256x2048.rank → ℕ} {ainb} (hao : ao = ![h.val, 0, 0])
    {wo : Fin S2048x512.rank → ℕ} {winb} (hwo : wo = ![0, 0])
    {o o' : Fin S2048x512.rank → ℕ} {inb inb'} (ho : o = ![off c (.hop d h), 0]) (ho' : o' = ![off c (.hop d h), 0])
    {qs : DmaSem sig} (hq : qs = oS (.hop d h)) {pay : Vec F S1x256x2048 .bf16 → Vec F S2048x512 .f32 → Vec F S256x512 .f32} (hpay : ∀ a w, pay a w = k0_pay12 a w) {h1 h2 h3 h4 h5}
    {hsrc : (oM.slice (Rect.unit (s := S2048x512) o' S256x512.size inb') (fun _ => rfl)).view.WordExact} {hdst : (o0M.slice (Rect.unit (s := S2048x512) o' S256x512.size inb') (fun _ => rfl)).view.WordExact}
    {hsem} {α : Type} {Q : α → sProp 𝕄} {k : PUnit → Prog (TpuEff nD τ sig (Elt F) Λ₀ .tc) α} :
    LT d c (sset h.castSucc) q (CT m d c) ⊢ iprop(pt c cc0_scratch1 Finset.univ fullShare (Wt m c) -∗ oIn c (.hop d h)
      -∗ (iprop(LT d c (sset h.castSucc) q (CT m d c) ∗ pt c cc0_scratch1 Finset.univ fullShare (Wt m c) ∗ oFl m c (.hop d h)) -∗ Run c (k ⟨⟩) Q)
      -∗ Run c (.op (.load (lM d) (Rect.unit (s := S3x256x2048) ao S1x256x2048.size ainb).toLoadRect h1) fun a =>
          .op (.load wM (Rect.unit (s := S2048x512) wo S2048x512.size winb).toLoadRect h2) fun w =>
          .op (.load oM (Rect.unit (s := S2048x512) o S256x512.size inb).toLoadRect h3) fun _ =>
          .op (.store oM (Rect.unit (s := S2048x512) o S256x512.size inb) (pay a w) Finset.univ h4 h5) fun _ =>
          .op (.enqueueDma (oM.slice (Rect.unit (s := S2048x512) o' S256x512.size inb') (fun _ => rfl)) (.here (o0M.slice (Rect.unit (s := S2048x512) o' S256x512.size inb') (fun _ => rfl)))
            (.dma qs) hsrc hdst hsem) k) Q) := by
  iintro Hx Hw Ho Hk
  iapply (l_load (F := F) c d (S := sset h.castSucc) (sset_eq h.castSucc ao ainb hao).subset) $$ Hx; iintro Hx
  iapply (wp_load (defs := defs₀) 𝒱₀ (c : Thread nD τ) none Set.univ (m := wM) (S := Finset.univ) (Finset.subset_univ _)) $$ Hw; iintro Hw
  rw [hopA_read m d c h.castSucc ao ainb hao, whole_read_w m c wo winb hwo, hpay]
  iapply (o_step m c (.hop d h) ho ho' rfl hq (hop_read m c d h o inb ho)) $$ Ho
  iintro Hf
  iapply Hk
  isplitl [Hx]; · iexact Hx
  isplitl [Hw]; · iexact Hw
  iexact Hf

/-- The product of one window of the last hop. -/
theorem fin_step (c : Dev nD) (d : Bool) (s : Fin 4) {q : PosShare TreeShare} {ao : Fin S3x256x2048.rank → ℕ} {ainb} (hao : ao = ![2, 64 * s.val, 0])
    {wo : Fin S2048x512.rank → ℕ} {winb} (hwo : wo = ![0, 0])
    {o o' : Fin S2048x512.rank → ℕ} {inb inb'} (ho : o = ![off c (.fin d s), 0]) (ho' : o' = ![off c (.fin d s), 0])
    {qs : DmaSem sig} (hq : qs = oS (.fin d s)) {pay : Vec F S1x64x2048 .bf16 → Vec F S2048x512 .f32 → Vec F S64x512 .f32} (hpay : ∀ a w, pay a w = k0_pay18 (k0_pay17 a w)) {h1 h2 h3 h4 h5}
    {hsrc : (oM.slice (Rect.unit (s := S2048x512) o' S64x512.size inb') (fun _ => rfl)).view.WordExact} {hdst : (o0M.slice (Rect.unit (s := S2048x512) o' S64x512.size inb') (fun _ => rfl)).view.WordExact}
    {hsem} {α : Type} {Q : α → sProp 𝕄} {k : PUnit → Prog (TpuEff nD τ sig (Elt F) Λ₀ .tc) α} :
    LT d c (lset 2 s) q (CT m d c) ⊢ iprop(pt c cc0_scratch1 Finset.univ fullShare (Wt m c) -∗ oIn c (.fin d s)
      -∗ (iprop(LT d c (lset 2 s) q (CT m d c) ∗ pt c cc0_scratch1 Finset.univ fullShare (Wt m c) ∗ oFl m c (.fin d s)) -∗ Run c (k ⟨⟩) Q)
      -∗ Run c (.op (.load (lM d) (Rect.unit (s := S3x256x2048) ao S1x64x2048.size ainb).toLoadRect h1) fun a =>
          .op (.load wM (Rect.unit (s := S2048x512) wo S2048x512.size winb).toLoadRect h2) fun w =>
          .op (.load oM (Rect.unit (s := S2048x512) o S64x512.size inb).toLoadRect h3) fun _ =>
          .op (.store oM (Rect.unit (s := S2048x512) o S64x512.size inb) (pay a w) Finset.univ h4 h5) fun _ =>
          .op (.enqueueDma (oM.slice (Rect.unit (s := S2048x512) o' S64x512.size inb') (fun _ => rfl)) (.here (o0M.slice (Rect.unit (s := S2048x512) o' S64x512.size inb') (fun _ => rfl)))
            (.dma qs) hsrc hdst hsem) k) Q) := by
  iintro Hx Hw Ho Hk
  iapply (l_load (F := F) c d (S := lset 2 s) (lset_eq 2 s ao ainb hao).subset) $$ Hx; iintro Hx
  iapply (wp_load (defs := defs₀) 𝒱₀ (c : Thread nD τ) none Set.univ (m := wM) (S := Finset.univ) (Finset.subset_univ _)) $$ Hw; iintro Hw
  rw [finA_read m d c s ao ainb hao, whole_read_w m c wo winb hwo, hpay]
  iapply (o_step m c (.fin d s) ho ho' rfl hq (fin_read m c d s o inb ho)) $$ Ho
  iintro Hf
  iapply Hk
  isplitl [Hx]; · iexact Hx
  isplitl [Hw]; · iexact Hw
  iexact Hf

end Cert.RingMM

end
-- ==== Proof.Stages.lean ====
/-
  The kernel's repeated sequences of operations, each as one step: a window of each half of `x` rounded and sent, a landed window passed on, a window of
  the last hop multiplied.
-/
module

public import proofs.«01_k».proof.Proof.Remote
public import proofs.«01_k».proof.Proof.Products

@[expose] public section

noncomputable section

namespace Cert.RingMM

open Cert.KernelIdeal Cert.KernelIdeal.Gen
open Idealize.ShloMosaic Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

local notation "𝕄" => MT nD τ sig Unit (Elt F) ℕ UU ℕ

/-! ## The waits for a device's own copies -/

theorem x_wait (K : Dev nD × Slot → ℕ) (c : Dev nD) (j : Fin 8) (ps : List Pay) (hps : ∀ p ∈ ps, 0 < payLv p) {q : DmaSem sig} (hq : q = xS j)
    {src : Memref sig .tc .hbm S64x2048 .f32} {dst : Memref sig .tc .vmem S64x2048 .f32} {hsrc : src.view.WordExact} {hdst : dst.view.WordExact}
    (hn : dst.view.dmaCredit = NX) {α : Type} {Q : α → sProp 𝕄} {k : PUnit → Prog (TpuEff nD τ sig (Elt F) Λ₀ .tc) α} :
    xFl m c j ⊢ iprop(env m K -∗ own c ps -∗ (iprop(xOut m c j ∗ semVal ((c : Thread nD τ), .dma (xS j)) 0 ∗ own c ps) -∗ Run c (k ⟨⟩) Q)
      -∗ Run c (.op (.waitDma2 q src dst hsrc hdst) k) Q) := by
  subst hq
  exact local_wait m K c ps hps ((show ∀ j, decode (xS j) = none by decide) j) hn

theorem o_wait (K : Dev nD × Slot → ℕ) (c : Dev nD) (b : Blk) (ps : List Pay) (hps : ∀ p ∈ ps, 0 < payLv p) {q : DmaSem sig} (hq : q = oS b)
    {sz : Shape} {src : Memref sig .tc .vmem sz .f32} {dst : Memref sig .tc .hbm sz .f32} {hsrc : src.view.WordExact} {hdst : dst.view.WordExact}
    (hn : dst.view.dmaCredit = NO b) {α : Type} {Q : α → sProp 𝕄} {k : PUnit → Prog (TpuEff nD τ sig (Elt F) Λ₀ .tc) α} :
    oFl m c b ⊢ iprop(env m K -∗ own c ps -∗ (iprop(oOut m c b ∗ semVal ((c : Thread nD τ), .dma (oS b)) 0 ∗ own c ps) -∗ Run c (k ⟨⟩) Q)
      -∗ Run c (.op (.waitDma2 q src dst hsrc hdst) k) Q) := by
  subst hq
  exact local_wait m K c ps hps ((show ∀ b, decode (oS b) = none by decide) b) hn

theorem w_wait (K : Dev nD × Slot → ℕ) (c : Dev nD) (ps : List Pay) (hps : ∀ p ∈ ps, 0 < payLv p) {q : DmaSem sig} (hq : q = wS)
    {hsrc : w0M.view.WordExact} {hdst : wM.view.WordExact} {α : Type} {Q : α → sProp 𝕄} {k : PUnit → Prog (TpuEff nD τ sig (Elt F) Λ₀ .tc) α} :
    wFl m c ⊢ iprop(env m K -∗ own c ps -∗ (iprop(wOut m c ∗ semVal ((c : Thread nD τ), .dma wS) 0 ∗ own c ps) -∗ Run c (k ⟨⟩) Q)
      -∗ Run c (.op (.waitDma2 q w0M wM hsrc hdst) k) Q) := by
  subst hq
  exact local_wait m K c ps hps (by decide) rfl

/-! ## The first hop: one window of each half -/

/-- A window of a half of `x`, from its arrival to its send: its copy under way, its place among the rounded rows, and its link. -/
def winIn (c : Dev nD) (d : Bool) (s : Fin 4) : sProp 𝕄 :=
  iprop(xFl m c (xj d s) ∗ (∃ f, pt c cc0_scratch3 (xset (xj d s)) fullShare f) ∗ sndR c (d, 0, s))
/-- The same once sent. -/
def winOut (c : Dev nD) (d : Bool) (s : Fin 4) : sProp 𝕄 :=
  iprop(xOut m c (xj d s) ∗ semVal ((c : Thread nD τ), .dma (xS (xj d s))) 0 ∗ sent c (d, 0, s))

theorem window_step (K : Dev nD × Slot → ℕ) (c : Dev nD) (s : Fin 4) (ps' ps : List Pay) (he : ps' = .snd (false, 0, s) :: .snd (true, 0, s) :: ps) (hps : ∀ p ∈ ps', 0 < payLv p)
    {q0 q1 : DmaSem sig} (hq0 : q0 = xS (xj false s)) (hq1 : q1 = xS (xj true s))
    {a0 a1 : Memref sig .tc .hbm S64x2048 .f32} {b0 b1 : Memref sig .tc .vmem S64x2048 .f32} {ha0 : a0.view.WordExact} {hb0 : b0.view.WordExact}
    {ha1 : a1.view.WordExact} {hb1 : b1.view.WordExact} (hn0 : b0.view.dmaCredit = NX) (hn1 : b1.view.dmaCredit = NX)
    {o0 o1 : Fin S512x2048.rank → ℕ} {i0 i0' i0'' i1 i1' i1''} (ho0 : o0 = ![64 * (xj false s).val, 0]) (ho1 : o1 = ![64 * (xj true s).val, 0])
    {pay0 pay1 : Vec F S64x2048 .f32 → Vec F S64x2048 .bf16} (hpay0 : pay0 = k0_pay1) (hpay1 : pay1 = k0_pay1) {l0 l0' s0 s0' l1 l1' s1 s1'}
    {n0 n1 : Dev nD} (hd0 : n0 = peer false c) (hd1 : n1 = peer true c) {lo0 lo1 : Fin S3x256x2048.rank → ℕ} {li0 li1}
    (hlo0 : lo0 = ![0, 64 * s.val, 0]) (hlo1 : lo1 = ![0, 64 * s.val, 0])
    {p0 r0 p1 r1 : DmaSem sig} (hp0 : p0 = rsem false (false, 0, s)) (hr0 : r0 = rsem true (false, 0, s)) (hp1 : p1 = rsem false (true, 0, s)) (hr1 : r1 = rsem true (true, 0, s))
    {x0 y0 z0 w0 x1 y1 z1 w1} {α : Type} {Q : α → sProp 𝕄} {k : PUnit → Prog (TpuEff nD τ sig (Elt F) Λ₀ .tc) α} :
    iprop(winIn m c false s ∗ winIn m c true s)
      ⊢ iprop(env m K -∗ own c ps' -∗ (iprop((winOut m c false s ∗ winOut m c true s) ∗ own c ps) -∗ Run c (k ⟨⟩) Q)
      -∗ Run c (.op (.waitDma2 q0 a0 b0 ha0 hb0) fun _ => .op (.waitDma2 q1 a1 b1 ha1 hb1) fun _ =>
          .op (.load xM (Rect.unit (s := S512x2048) o0 S64x2048.size i0).toLoadRect l0) fun a =>
          .op (.load sM (Rect.unit (s := S512x2048) o0 S64x2048.size i0').toLoadRect l0') fun _ =>
          .op (.store sM (Rect.unit (s := S512x2048) o0 S64x2048.size i0') (pay0 a) Finset.univ s0 s0') fun _ =>
          .op (.load xM (Rect.unit (s := S512x2048) o1 S64x2048.size i1).toLoadRect l1) fun a =>
          .op (.load sM (Rect.unit (s := S512x2048) o1 S64x2048.size i1').toLoadRect l1') fun _ =>
          .op (.store sM (Rect.unit (s := S512x2048) o1 S64x2048.size i1') (pay1 a) Finset.univ s1 s1') fun _ =>
          .op (.enqueueDma (sM.slice (Rect.unit (s := S512x2048) o0 S64x2048.size i0'') (fun _ => rfl)) (.remote (Dev.tc n0) (lwin false lo0 li0) (.dma p0) x0) (.dma r0) y0 z0 w0) fun _ =>
          .op (.enqueueDma (sM.slice (Rect.unit (s := S512x2048) o1 S64x2048.size i1'') (fun _ => rfl)) (.remote (Dev.tc n1) (lwin true lo1 li1) (.dma p1) x1) (.dma r1) y1 z1 w1) k) Q) := by
  subst he
  unfold winIn
  iintro ⟨⟨Hx0, Hs0, Ht0⟩, Hx1, Hs1, Ht1⟩ #HE HO Hk
  iapply (x_wait m K c (xj false s) _ hps hq0 hn0) $$ Hx0 HE HO; iintro ⟨Hx0, Hz0, HO⟩
  iapply (x_wait m K c (xj true s) _ hps hq1 hn1) $$ Hx1 HE HO; iintro ⟨Hx1, Hz1, HO⟩
  iapply (cast_step m c (xj false s) ho0 rfl hpay0) $$ Hx0 Hs0; iintro ⟨Hx0, Hs0⟩
  iapply (cast_step m c (xj true s) ho1 rfl hpay1) $$ Hx1 Hs1; iintro ⟨Hx1, Hs1⟩
  iapply (send_step m K c false s (.snd (true, 0, s) :: ps) hd0 (ho0.trans (by simp [xj])) hlo0 hp0 hr0) $$ Hs0 HE Ht0 HO; iintro ⟨Ht0, HO⟩
  iapply (send_step m K c true s ps hd1 (ho1.trans (by simp [xj, Nat.mul_add])) hlo1 hp1 hr1) $$ Hs1 HE Ht1 HO; iintro ⟨Ht1, HO⟩
  iapply Hk
  unfold winOut
  isplitr [HO]
  · isplitl [Hx0 Hz0 Ht0]
    · isplitl [Hx0]; · iexact Hx0
      isplitl [Hz0]; · iexact Hz0
      iexact Ht0
    isplitl [Hx1]; · iexact Hx1
    isplitl [Hz1]; · iexact Hz1
    iexact Ht1
  iexact HO

/-! ## A later hop: a window received and passed on -/

theorem LT_halves (d : Bool) (c : Dev nD) (S : Finset S3x256x2048.Idx) (f : Vec F S3x256x2048 .bf16) :
    LT d c S fullShare f ⊢ iprop(LT d c S fullShare.left f ∗ LT d c S fullShare.right f) := by
  cases d <;> exact (pointsTo_share (PosShare.mem_left_op_right _)).mp
theorem LT_whole (d : Bool) (c : Dev nD) (S : Finset S3x256x2048.Idx) (f : Vec F S3x256x2048 .bf16) :
    iprop(LT d c S fullShare.left f ∗ LT d c S fullShare.right f) ⊢ LT d c S fullShare f := by
  cases d <;> exact (pointsTo_share (PosShare.mem_left_op_right _)).mpr

/-- A hop's window to come, and the link that takes it on; -/
def passIn (c : Dev nD) (h' h : Fin 3) (d : Bool) (s : Fin 4) : sProp 𝕄 := iprop(rcvR c (d, h', s) ∗ sndR c (d, h, s))
/-- the half of the window kept, the receive cell at zero and the send under way. -/
def passOut (c : Dev nD) (h' h : Fin 3) (d : Bool) (s : Fin 4) : sProp 𝕄 :=
  iprop(LT d c (lset h' s) fullShare.right (CT m d c) ∗ semVal (rcvCell (d, h', s) c) 0 ∗ sent c (d, h, s))

theorem pass_step (K : Dev nD × Slot → ℕ) (c : Dev nD) (d : Bool) (h' h : Fin 3) (s : Fin 4) (ps' ps : List Pay) (he : ps' = .snd (d, h, s) :: ps) (hps : ∀ p ∈ ps', 2 + h'.val < payLv p)
    (hh : origin d h (peer d c) = origin d h' c) (hp : srcPts m c (d, h, s) = LT d c (lset h' s) fullShare.left (CT m d c))
    {q : DmaSem sig} (hq : q = rsem true (d, h', s)) {sp : Space} {sz : Shape} {a : Memref sig .tc sp sz .bf16} {b : Memref sig .tc .vmem S64x2048 .bf16}
    {ha : a.view.WordExact} {hb : b.view.WordExact} (hn : b.view.dmaCredit = N) {n : Dev nD} (hd : n = peer d c)
    {so lo : Fin S3x256x2048.rank → ℕ} {si li} (hso : so = ![h'.val, 64 * s.val, 0]) (hlo : lo = ![h.val, 64 * s.val, 0])
    {p r : DmaSem sig} (hp' : p = rsem false (d, h, s)) (hr : r = rsem true (d, h, s)) {x y z w} {α : Type} {Q : α → sProp 𝕄} {k : PUnit → Prog (TpuEff nD τ sig (Elt F) Λ₀ .tc) α} :
    passIn c h' h d s ⊢ iprop(env m K -∗ own c ps' -∗ (iprop(passOut m c h' h d s ∗ own c ps) -∗ Run c (k ⟨⟩) Q)
      -∗ Run c (.op (.waitDma2 q a b ha hb) fun _ => .op (.enqueueDma (lwin d so si) (.remote (Dev.tc n) (lwin d lo li) (.dma p) x) (.dma r) y z w) k) Q) := by
  subst he
  unfold passIn
  iintro ⟨Hr, Hs⟩ #HE HO Hk
  iapply (recv_step m K c (d, h', s) (.snd (d, h, s) :: ps) hps hq hn) $$ Hr HE HO
  unfold landPts
  iintro ⟨Hl, Hz, HO⟩
  ihave ⟨Hl1, Hl2⟩ := (LT_halves d c (lset h' s) (CT m d c)) $$ Hl
  iapply (relay_step m K c d h h' s ps hd hh hp hso hlo hp' hr) $$ Hl1 HE Hs HO
  iintro ⟨Hs, HO⟩
  iapply Hk
  unfold passOut
  isplitr [HO]
  · isplitl [Hl2]; · iexact Hl2
    isplitl [Hz]; · iexact Hz
    iexact Hs
  iexact HO

/-! ## The last hop: a window received and multiplied -/

def lastIn (c : Dev nD) (d : Bool) (s : Fin 4) : sProp 𝕄 := iprop(rcvR c (d, 2, s) ∗ oIn c (.fin d s))
def lastOut (c : Dev nD) (d : Bool) (s : Fin 4) : sProp 𝕄 :=
  iprop(LT d c (lset 2 s) fullShare (CT m d c) ∗ semVal (rcvCell (d, 2, s) c) 0 ∗ oFl m c (.fin d s))

theorem last_step (K : Dev nD × Slot → ℕ) (c : Dev nD) (d : Bool) (s : Fin 4)
    {q : DmaSem sig} (hq : q = rsem true (d, 2, s)) {sp : Space} {sz : Shape} {a : Memref sig .tc sp sz .bf16} {b : Memref sig .tc .vmem S64x2048 .bf16}
    {ha : a.view.WordExact} {hb : b.view.WordExact} (hn : b.view.dmaCredit = N)
    {ao : Fin S3x256x2048.rank → ℕ} {ainb} (hao : ao = ![2, 64 * s.val, 0]) {wo : Fin S2048x512.rank → ℕ} {winb} (hwo : wo = ![0, 0])
    {o o' : Fin S2048x512.rank → ℕ} {inb inb'} (ho : o = ![off c (.fin d s), 0]) (ho' : o' = ![off c (.fin d s), 0])
    {qs : DmaSem sig} (hqs : qs = oS (.fin d s)) {pay : Vec F S1x64x2048 .bf16 → Vec F S2048x512 .f32 → Vec F S64x512 .f32} (hpay : ∀ a w, pay a w = k0_pay18 (k0_pay17 a w))
    {h1 h2 h3 h4 h5 h6 h7 h8} {α : Type} {Q : α → sProp 𝕄} {k : PUnit → Prog (TpuEff nD τ sig (Elt F) Λ₀ .tc) α} :
    lastIn c d s ⊢ iprop(env m K -∗ pt c cc0_scratch1 Finset.univ fullShare (Wt m c) -∗ own c []
      -∗ (iprop(lastOut m c d s ∗ pt c cc0_scratch1 Finset.univ fullShare (Wt m c) ∗ own c []) -∗ Run c (k ⟨⟩) Q)
      -∗ Run c (.op (.waitDma2 q a b ha hb) fun _ => .op (.load (lM d) (Rect.unit (s := S3x256x2048) ao S1x64x2048.size ainb).toLoadRect h1) fun a =>
          .op (.load wM (Rect.unit (s := S2048x512) wo S2048x512.size winb).toLoadRect h2) fun w =>
          .op (.load oM (Rect.unit (s := S2048x512) o S64x512.size inb).toLoadRect h3) fun _ =>
          .op (.store oM (Rect.unit (s := S2048x512) o S64x512.size inb) (pay a w) Finset.univ h4 h5) fun _ =>
          .op (.enqueueDma (oM.slice (Rect.unit (s := S2048x512) o' S64x512.size inb') (fun _ => rfl)) (.here (o0M.slice (Rect.unit (s := S2048x512) o' S64x512.size inb') (fun _ => rfl)))
            (.dma qs) h6 h7 h8) k) Q) := by
  unfold lastIn
  iintro ⟨Hr, Ho⟩ #HE Hw HO Hk
  iapply (recv_step m K c (d, 2, s) [] (fun p hp => absurd hp List.not_mem_nil) hq hn) $$ Hr HE HO
  unfold landPts
  iintro ⟨Hl, Hz, HO⟩
  iapply (fin_step m c d s hao hwo ho ho' hqs hpay) $$ Hl Hw Ho
  iintro ⟨Hl, Hw, Ho⟩
  iapply Hk
  unfold lastOut
  isplitl [Hl Hz Ho]
  · isplitl [Hl]; · iexact Hl
    isplitl [Hz]; · iexact Hz
    iexact Ho
  isplitl [Hw]; · iexact Hw
  iexact HO

/-! ## The end -/

/-- A sent window back, its send cell at zero; -/
def drained (c : Dev nD) (t : Link) : sProp 𝕄 := iprop(srcPts m c t ∗ semVal (sndCell t c) 0)
/-- a block of the result copied out, its semaphore at zero. -/
def oDone (c : Dev nD) (b : Blk) : sProp 𝕄 := iprop(oOut m c b ∗ semVal ((c : Thread nD τ), .dma (oS b)) 0)

theorem drain_done (K : Dev nD × Slot → ℕ) (c : Dev nD) (t : Link) {q : DmaSem sig} (hq : q = rsem false t)
    {sp sp' : Space} {s s' : Shape} {e e' : EltTy} {src : Memref sig .tc sp' s' e'} {dst : Memref sig .tc sp s e} {hsrc : src.view.WordExact} {hdst : dst.view.WordExact}
    (hn : dst.view.dmaCredit = N) {α : Type} {Q : α → sProp 𝕄} {k : PUnit → Prog (TpuEff nD τ sig (Elt F) Λ₀ .tc) α} :
    sent c t ⊢ iprop(env m K -∗ own c [] -∗ (iprop(drained m c t ∗ own c []) -∗ Run c (k ⟨⟩) Q) -∗ Run c (.op (.waitDma2 q src dst hsrc hdst) k) Q) := by
  iintro Hs #HE HO Hk
  iapply (drain_step m K c t hq hn) $$ Hs HE HO
  iintro ⟨H1, H2, HO⟩
  iapply Hk
  unfold drained
  isplitr [HO]
  · isplitl [H1]; · iexact H1
    iexact H2
  iexact HO

theorem o_done (K : Dev nD × Slot → ℕ) (c : Dev nD) (b : Blk) {q : DmaSem sig} (hq : q = oS b)
    {sz : Shape} {src : Memref sig .tc .vmem sz .f32} {dst : Memref sig .tc .hbm sz .f32} {hsrc : src.view.WordExact} {hdst : dst.view.WordExact}
    (hn : dst.view.dmaCredit = NO b) {α : Type} {Q : α → sProp 𝕄} {k : PUnit → Prog (TpuEff nD τ sig (Elt F) Λ₀ .tc) α} :
    oFl m c b ⊢ iprop(env m K -∗ own c [] -∗ (iprop(oDone m c b ∗ own c []) -∗ Run c (k ⟨⟩) Q) -∗ Run c (.op (.waitDma2 q src dst hsrc hdst) k) Q) := by
  iintro Hs #HE HO Hk
  iapply (o_wait m K c b [] (fun p hp => absurd hp List.not_mem_nil) hq hn) $$ Hs HE HO
  iintro ⟨H1, H2, HO⟩
  iapply Hk
  unfold oDone
  isplitr [HO]
  · isplitl [H1]; · iexact H1
    iexact H2
  iexact HO

end Cert.RingMM

end
-- ==== Proof.Splits.lean ====
/-
  The buffers cut into the windows the kernel works on, and joined again.
-/
module

public import proofs.«01_k».proof.Proof.Protocol

@[expose] public section

noncomputable section

namespace Cert.RingMM

open Cert.KernelIdeal Cert.KernelIdeal.Gen
open Idealize.ShloMosaic Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

local notation "𝕄" => MT nD τ sig Unit (Elt F) ℕ UU ℕ

/-- One resource for each direction and window, in the order the kernel takes them. -/
abbrev eight (Φ : Bool → Fin 4 → sProp 𝕄) : sProp 𝕄 :=
  iprop(Φ false 0 ∗ Φ true 0 ∗ Φ false 1 ∗ Φ true 1 ∗ Φ false 2 ∗ Φ true 2 ∗ Φ false 3 ∗ Φ true 3)
/-- One for each window. -/
abbrev four (Φ : Fin 4 → sProp 𝕄) : sProp 𝕄 := iprop(Φ 0 ∗ Φ 1 ∗ Φ 2 ∗ Φ 3)
/-- One for each block of the result, in the order the kernel stores them. -/
abbrev blocks (Φ : Blk → sProp 𝕄) : sProp 𝕄 :=
  iprop(Φ .own ∗ (Φ (.hop false 0) ∗ Φ (.hop true 0) ∗ Φ (.hop false 1) ∗ Φ (.hop true 1)) ∗ eight fun d s => Φ (.fin d s))

theorem eight_fin8 (Φ : Fin 8 → sProp 𝕄) : bigSep Finset.univ Φ = eight fun d s => Φ (xj d s) := by
  rw [bigSep_univ_eq_bigSepL [xj false 0, xj true 0, xj false 1, xj true 1, xj false 2, xj true 2, xj false 3, xj true 3] (by decide) (by decide)]
  simp only [bigSepL_cons_cons, bigSepL_singleton]; rfl
theorem eight_prod (Φ : Bool → Fin 4 → sProp 𝕄) : (bigSep Finset.univ fun p : Bool × Fin 4 => Φ p.1 p.2) = eight Φ := by
  rw [bigSep_univ_eq_bigSepL [(false, 0), (true, 0), (false, 1), (true, 1), (false, 2), (true, 2), (false, 3), (true, 3)] (by decide) (by decide)]
  simp only [bigSepL_cons_cons, bigSepL_singleton]; rfl
theorem four_fin4 (Φ : Fin 4 → sProp 𝕄) : bigSep Finset.univ Φ = four Φ := by
  rw [bigSep_univ_eq_bigSepL [0, 1, 2, 3] (by decide) (by decide)]
  simp only [bigSepL_cons_cons, bigSepL_singleton]; rfl
theorem three_fin3 (Φ : Fin 3 → sProp 𝕄) : bigSep Finset.univ Φ = iprop(Φ 0 ∗ Φ 1 ∗ Φ 2) := by
  rw [bigSep_univ_eq_bigSepL [0, 1, 2] (by decide) (by decide)]
  simp only [bigSepL_cons_cons, bigSepL_singleton]; rfl
/-- `∗` is associative, as an equation. -/
theorem sep_assocE (A B C : sProp 𝕄) : iprop((A ∗ B) ∗ C) = iprop(A ∗ B ∗ C) := equiv_iff.mp ⟨BI.sep_assoc, BI.sep_assoc'⟩
theorem blocks_blk (Φ : Blk → sProp 𝕄) : bigSep Finset.univ Φ = blocks Φ := by
  rw [bigSep_univ_eq_bigSepL [.own, .hop false 0, .hop true 0, .hop false 1, .hop true 1, .fin false 0, .fin true 0, .fin false 1, .fin true 1, .fin false 2, .fin true 2, .fin false 3, .fin true 3]
    (by decide) (by decide)]
  simp only [bigSepL_cons_cons, bigSepL_singleton, blocks, sep_assocE]; rfl

/-- Elements sorted by a key. -/
theorem pt_sort {T : Type} [Fintype T] [DecidableEq T] {ℓ : Loc nD τ sig} (K : T → Finset (Idx ℓ)) (S : Finset (Idx ℓ)) (key : Idx ℓ → T) (hK : ∀ t i, i ∈ K t ↔ i ∈ S ∧ key i = t)
    (q : PosShare TreeShare) (f : Buf (Elt F) ℓ) : (ℓ ↦[S]{q} f : sProp 𝕄) = bigSep Finset.univ fun t => ℓ ↦[K t]{q} f := by
  classical
  rw [← pointsTo_biUnion Finset.univ K (fun t _ t' _ h => Finset.disjoint_left.mpr fun i hi hi' => h (((hK t i).mp hi).2.symm.trans ((hK t' i).mp hi').2))]
  congr 1
  ext i
  simp only [Finset.mem_biUnion, Finset.mem_univ, true_and]
  exact ⟨fun h => ⟨key i, (hK _ i).mpr ⟨h, rfl⟩⟩, fun ⟨t, h⟩ => ((hK t i).mp h).1⟩

section X
variable (c : Dev nD) (q : PosShare TreeShare)

theorem xset_iff (j : Fin 8) (i : S512x2048.Idx) : i ∈ xset j ↔ i ∈ (Finset.univ : Finset S512x2048.Idx) ∧ (⟨(i 0).val / 64, by have : (i 0).val < 512 := (i 0).isLt; omega⟩ : Fin 8) = j := by
  simp only [xset, Finset.mem_filter, Finset.mem_univ, true_and, Fin.ext_iff]

theorem pt_arg0 (f) : (pt c main_arg0 Finset.univ q f : sProp 𝕄) = eight fun d s => pt c main_arg0 (xset (xj d s)) q f :=
  (pt_sort (ℓ := (c : Thread nD τ).loc main_arg0) xset Finset.univ _ xset_iff q f).trans (eight_fin8 _)
theorem pt_scr0 (f) : (pt c cc0_scratch0 Finset.univ q f : sProp 𝕄) = eight fun d s => pt c cc0_scratch0 (xset (xj d s)) q f :=
  (pt_sort (ℓ := (c : Thread nD τ).loc cc0_scratch0) xset Finset.univ _ xset_iff q f).trans (eight_fin8 _)
theorem pt_scr3 (f) : (pt c cc0_scratch3 Finset.univ q f : sProp 𝕄) = eight fun d s => pt c cc0_scratch3 (xset (xj d s)) q f :=
  (pt_sort (ℓ := (c : Thread nD τ).loc cc0_scratch3) xset Finset.univ _ xset_iff q f).trans (eight_fin8 _)

theorem oset_iff (b : Blk) (i : S2048x512.Idx) : i ∈ oset c b ↔ i ∈ (Finset.univ : Finset S2048x512.Idx) ∧ key c (i 0).val = b := by
  simp only [oset, Finset.mem_filter, Finset.mem_univ, true_and]
theorem pt_scr2 (f) : (pt c cc0_scratch2 Finset.univ q f : sProp 𝕄) = blocks fun b => pt c cc0_scratch2 (oset c b) q f :=
  (pt_sort (ℓ := (c : Thread nD τ).loc cc0_scratch2) (oset c) Finset.univ _ (oset_iff c) q f).trans (blocks_blk _)
theorem pt_out (f) : (pt c main_v1 Finset.univ q f : sProp 𝕄) = blocks fun b => pt c main_v1 (oset c b) q f :=
  (pt_sort (ℓ := (c : Thread nD τ).loc main_v1) (oset c) Finset.univ _ (oset_iff c) q f).trans (blocks_blk _)

theorem sset_iff (h : Fin 3) (i : S3x256x2048.Idx) : i ∈ sset h ↔ i ∈ (Finset.univ : Finset S3x256x2048.Idx) ∧ (⟨(i 0).val, (i 0).isLt⟩ : Fin 3) = h := by
  simp only [sset, Finset.mem_filter, Finset.mem_univ, true_and, Fin.ext_iff]
theorem lset_iff (h : Fin 3) (s : Fin 4) (i : S3x256x2048.Idx) :
    i ∈ lset h s ↔ i ∈ sset h ∧ (⟨(i 1).val / 64, by have : (i 1).val < 256 := (i 1).isLt; omega⟩ : Fin 4) = s := by
  simp only [lset, sset, Finset.mem_filter, Finset.mem_univ, true_and, Fin.ext_iff]

theorem LT_hops (d : Bool) (f : Vec F S3x256x2048 .bf16) :
    (LT d c Finset.univ q f : sProp 𝕄) = iprop(LT d c (sset 0) q f ∗ LT d c (sset 1) q f ∗ LT d c (sset 2) q f) := by
  cases d
  · exact (pt_sort (ℓ := (c : Thread nD τ).loc cc0_scratch4) sset Finset.univ _ sset_iff q f).trans (three_fin3 _)
  · exact (pt_sort (ℓ := (c : Thread nD τ).loc cc0_scratch5) sset Finset.univ _ sset_iff q f).trans (three_fin3 _)
theorem LT_windows (d : Bool) (h : Fin 3) (f : Vec F S3x256x2048 .bf16) :
    (LT d c (sset h) q f : sProp 𝕄) = four fun s => LT d c (lset h s) q f := by
  cases d
  · exact (pt_sort (ℓ := (c : Thread nD τ).loc cc0_scratch4) (lset h) (sset h) _ (lset_iff h) q f).trans (four_fin4 _)
  · exact (pt_sort (ℓ := (c : Thread nD τ).loc cc0_scratch5) (lset h) (sset h) _ (lset_iff h) q f).trans (four_fin4 _)

end X

end Cert.RingMM

end
-- ==== Proof.Body1.lean ====
/-
  The kernel's body, up to the sends of the first hop.
-/
module

public import proofs.«01_k».proof.Proof.Stages
public import proofs.«01_k».proof.Proof.Splits
public import proofs.«01_k».proof.Proof.Gen.KernelIdeal.Skeleton

@[expose] public section

noncomputable section

namespace Cert.RingMM

open Cert.KernelIdeal Cert.KernelIdeal.Gen
open Idealize.ShloMosaic Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

local notation "𝕄" => MT nD τ sig Unit (Elt F) ℕ UU ℕ

/-- A part of the kernel, at the buffers and semaphores it runs on. -/
abbrev onArgs {β : Type 1} (f : ∀ (arg0 : Memref sig .tc .hbm S512x2048 .f32) (harg0 : arg0.IsWhole) (arg1 : Memref sig .tc .hbm S2048x512 .f32) (harg1 : arg1.IsWhole) (arg2 : Memref sig .tc .hbm S2048x512 .f32) (harg2 : arg2.IsWhole) (arg3 : Memref sig .tc .vmem S512x2048 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S512x2048 .bf16) (harg6 : arg6.IsWhole) (arg7 : Memref sig .tc .vmem S3x256x2048 .bf16) (harg7 : arg7.IsWhole) (arg8 : Memref sig .tc .vmem S3x256x2048 .bf16) (harg8 : arg8.IsWhole) (arg9 : DmaSems sig S2x4) (arg10 : DmaSems sig S1) (arg11 : DmaSems sig S13) (arg12 : DmaSems sig S3x4) (arg13 : DmaSems sig S3x4) (arg14 : DmaSems sig S3x4) (arg15 : DmaSems sig S3x4), β) : β :=
  f (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12

/-! ## The input copies and the barrier -/

/-- The four words and the device a part hands on. -/
abbrev Words : Type := Σ' (d0 : Dev nD) (v2 : BitVec 32) (v5 : BitVec 32), BitVec 32

theorem device_step (c : Dev nD) {α : Type} {Q : α → sProp 𝕄} {k : Dev nD → Prog (TpuEff nD τ sig (Elt F) Λ₀ .tc) α} :
    Run c (k c) Q ⊢ Run c (.op .deviceId k) Q := Entails.of_eq (wp_deviceId (defs := defs₀) 𝒱₀ (c : Thread nD τ) none Set.univ).symm

theorem part1 (c : Dev nD) {α : Type} {Q : α → sProp 𝕄} {k : Words → Prog (TpuEff nD τ sig (Elt F) Λ₀ .tc) α} :
    iprop(xIn m c 0 ∗ xIn m c 4 ∗ xIn m c 1 ∗ xIn m c 5)
      ⊢ iprop((∀ v2 v5 v7, iprop(xFl m c 0 ∗ xFl m c 4 ∗ xFl m c 1 ∗ xFl m c 5) -∗ Run c (k ⟨c, v2, v5, v7⟩) Q) -∗ Run c (onArgs (k0_part1 (F := F)) >>= k) Q) := by
  rw [k0_part1_eq_skeleton]
  unfold k0_part1_skel
  simp only [Prog.lift, Prog.bind_op, Prog.bind_ret, Prog.pure_eq_ret]
  iintro ⟨H0, H4, H1, H5⟩ Hk
  iapply (device_step (F := F) c)
  iapply (x_start m c 0 rfl (by decide)) $$ H0; iintro H0
  iapply (x_start m c 4 rfl (by decide)) $$ H4; iintro H4
  iapply (x_start m c 1 rfl (by decide)) $$ H1; iintro H1
  iapply (x_start m c 5 rfl (by decide)) $$ H5; iintro H5
  iapply Hk
  isplitl [H0]; · iexact H0
  isplitl [H4]; · iexact H4
  isplitl [H1]; · iexact H1
  iexact H5

theorem part2 (K : Dev nD × Slot → ℕ) (c : Dev nD) (ps : List Pay) (hps : ∀ p ∈ ps, 1 < payLv p) (v5 v7 : BitVec 32)
    {α : Type} {Q : α → sProp 𝕄} {k : PUnit → Prog (TpuEff nD τ sig (Elt F) Λ₀ .tc) α} :
    iprop(xIn m c 2 ∗ xIn m c 6 ∗ xIn m c 3 ∗ xIn m c 7)
      ⊢ iprop(env m K -∗ own c (.sig false :: .sig true :: ps)
          -∗ iprop((dutyTok ER (barCell (peer (!false) c)) 0 false ∗ ∃ f : Vec F S3x256x2048 .bf16, LT false c Finset.univ fullShare f)
              ∗ (dutyTok ER (barCell (peer (!true) c)) 0 true ∗ ∃ f : Vec F S3x256x2048 .bf16, LT true c Finset.univ fullShare f))
          -∗ iprop(atPos ER (barCell c) 0 ∅ 0 ∗ cred (tallyAt (barCell c) () 2))
          -∗ (iprop((xFl m c 2 ∗ xFl m c 6 ∗ xFl m c 3 ∗ xFl m c 7) ∗ (barPay c false ∗ barPay c true) ∗ semVal (barCell c) 0 ∗ own c ps) -∗ Run c (k ⟨⟩) Q)
          -∗ Run c (onArgs (k0_part2 (F := F)) c v5 v7 >>= k) Q) := by
  rw [k0_part2_eq_skeleton]
  unfold k0_part2_skel
  simp only [Prog.lift, Prog.bind_op, Prog.bind_ret, Prog.pure_eq_ret, semSignalWord, semWaitWord]
  iintro ⟨H2, H6, H3, H7⟩ #HE HO ⟨⟨Ht0, Hl0⟩, Ht1, Hl1⟩ Hb Hk
  iapply (x_start m c 2 rfl (by decide)) $$ H2; iintro H2
  iapply (x_start m c 6 rfl (by decide)) $$ H6; iintro H6
  iapply (x_start m c 3 rfl (by decide)) $$ H3; iintro H3
  iapply (x_start m c 7 rfl (by decide)) $$ H7; iintro H7
  iapply (signal_step m K c false (.sig true :: ps) (Fin.ext (k0_dev1_eq c)) rfl) $$ Ht0 HE Hl0 HO; iintro HO
  iapply (signal_step m K c true ps (Fin.ext (k0_dev2_eq c)) rfl) $$ Ht1 HE Hl1 HO; iintro HO
  iapply (barrier_step m K c ps hps rfl) $$ Hb HE HO
  iintro ⟨Hp, Hz, HO⟩
  iapply Hk
  isplitl [H2 H6 H3 H7]
  · isplitl [H2]; · iexact H2
    isplitl [H6]; · iexact H6
    isplitl [H3]; · iexact H3
    iexact H7
  isplitl [Hp]; · iexact Hp
  isplitl [Hz]; · iexact Hz
  iexact HO

/-! ## The first hop's sends, the device's own product -/

/-- The payments between devices still ahead after the first `n`. -/
def pays (n : ℕ) : List Pay := (hopPays 0 ++ hopPays 1 ++ hopPays 2).drop n

/-- What is kept of a sent window of `x`: its input semaphore, and the send under way. -/
def winKept (c : Dev nD) (d : Bool) (s : Fin 4) : sProp 𝕄 := iprop(semVal ((c : Thread nD τ), .dma (xS (xj d s))) 0 ∗ sent c (d, 0, s))

theorem win_join (c : Dev nD) : eight (fun d s => winOut m c d s)
    ⊢ iprop(pt c cc0_scratch0 Finset.univ fullShare (X m c) ∗ pt c main_arg0 Finset.univ fullShare (X m c) ∗ eight fun d s => winKept c d s) := by
  rw [pt_scr0, pt_arg0]
  simp only [← eight_prod, ← bigSep_sep']
  refine bigSep_mono fun p _ => ?_
  show winOut m c p.1 p.2 ⊢ iprop(pt c cc0_scratch0 (xset (xj p.1 p.2)) fullShare (X m c) ∗ pt c main_arg0 (xset (xj p.1 p.2)) fullShare (X m c) ∗ winKept c p.1 p.2)
  unfold winOut xOut winKept
  iintro ⟨⟨H1, H2⟩, H3⟩
  isplitl [H1]; · iexact H1
  isplitl [H2]; · iexact H2
  iexact H3

def wKept (c : Dev nD) : sProp 𝕄 :=
  iprop(pt c main_arg1 Finset.univ fullShare (Wt m c) ∗ semVal ((c : Thread nD τ), .dma wS) 0)

set_option maxHeartbeats 8000000 in
theorem phaseA (K : Dev nD × Slot → ℕ) (c : Dev nD) (v2 v5 v7 : BitVec 32) {α : Type} {Q : α → sProp 𝕄} {k : BitVec 32 → Prog (TpuEff nD τ sig (Elt F) Λ₀ .tc) α} :
    eight (fun d s => winIn m c d s)
      ⊢ iprop(env m K -∗ own c (pays 0) -∗ iprop(wIn m c ∗ oIn c .own ∗ passIn c 0 1 false 0)
        -∗ (∀ v, iprop((pt c cc0_scratch0 Finset.univ fullShare (X m c) ∗ pt c main_arg0 Finset.univ fullShare (X m c) ∗ eight fun d s => winKept c d s)
              ∗ (pt c cc0_scratch1 Finset.univ fullShare (Wt m c) ∗ wKept m c) ∗ oFl m c .own ∗ passOut m c 0 1 false 0 ∗ own c (pays 9)) -∗ Run c (k v) Q)
        -∗ Run c (onArgs (k0_part3 (F := F)) v7 >>= fun _ => onArgs (k0_part4 (F := F)) c v5 >>= fun v95 => onArgs (k0_part5 (F := F)) c v5 v7 v95 >>= fun _ =>
            onArgs (k0_part6 (F := F)) c v5 v7 >>= fun _ => onArgs (k0_part7 (F := F)) c >>= fun v => onArgs (k0_part8 (F := F)) c v2 v5 v7 v >>= fun r =>
            onArgs (k0_part9 (F := F)) c v5 v7 r.1 r.2 >>= k) Q) := by
  rw [k0_part3_eq_skeleton, k0_part4_eq_skeleton, k0_part5_eq_skeleton, k0_part6_eq_skeleton, k0_part7_eq_skeleton, k0_part8_eq_skeleton, k0_part9_eq_skeleton]
  unfold k0_part3_skel k0_part4_skel k0_part5_skel k0_part6_skel k0_part7_skel k0_part8_skel k0_part9_skel
  simp only [Prog.lift, Prog.bind_op, Prog.bind_ret, Prog.pure_eq_ret]
  iintro ⟨F0, T0, F1, T1, F2, T2, F3, T3⟩ #HE HO ⟨Hw, Ho, Hp⟩ Hk
  iapply (window_step m K c 0 (pays 0) (pays 2) rfl (by decide) (by decide) (by decide) (by rfl) (by rfl) (by rfl) (by rfl) (by rfl) (by rfl)
    (Fin.ext (k0_dev3_eq c)) (Fin.ext (k0_dev4_eq c)) (by rfl) (by rfl) (by decide) (by decide) (by decide) (by decide)) $$ [F0 T0] HE HO
  · isplitl [F0]; · iexact F0
    iexact T0
  iintro ⟨⟨F0, T0⟩, HO⟩
  iapply (window_step m K c 1 (pays 2) (pays 4) rfl (by decide) (by decide) (by decide) (by rfl) (by rfl) (by rfl) (by rfl) (by rfl) (by rfl)
    (Fin.ext (k0_dev5_eq c)) (Fin.ext (k0_dev6_eq c)) (by rfl) (by rfl) (by decide) (by decide) (by decide) (by decide)) $$ [F1 T1] HE HO
  · isplitl [F1]; · iexact F1
    iexact T1
  iintro ⟨⟨F1, T1⟩, HO⟩
  iapply (window_step m K c 2 (pays 4) (pays 6) rfl (by decide) (by decide) (by decide) (by rfl) (by rfl) (by rfl) (by rfl) (by rfl) (by rfl)
    (Fin.ext (k0_dev7_eq c)) (Fin.ext (k0_dev8_eq c)) (by rfl) (by rfl) (by decide) (by decide) (by decide) (by decide)) $$ [F2 T2] HE HO
  · isplitl [F2]; · iexact F2
    iexact T2
  iintro ⟨⟨F2, T2⟩, HO⟩
  iapply (window_step m K c 3 (pays 6) (pays 8) rfl (by decide) (by decide) (by decide) (by rfl) (by rfl) (by rfl) (by rfl) (by rfl) (by rfl)
    (Fin.ext (k0_dev9_eq c)) (Fin.ext (k0_dev10_eq c)) (by rfl) (by rfl) (by decide) (by decide) (by decide) (by decide)) $$ [F3 T3] HE HO
  · isplitl [F3]; · iexact F3
    iexact T3
  iintro ⟨⟨F3, T3⟩, HO⟩
  iapply (w_start m c (by decide)) $$ Hw; iintro Hw
  iapply (w_wait m K c (pays 8) (by decide) (by decide)) $$ Hw HE HO
  unfold wOut
  iintro ⟨⟨Hw, Hw1⟩, Hwz, HO⟩
  ihave ⟨Hx, Hx0, Hkept⟩ := (win_join m c) $$ [F0 T0 F1 T1 F2 T2 F3 T3]
  · isplitl [F0]; · iexact F0
    isplitl [T0]; · iexact T0
    isplitl [F1]; · iexact F1
    isplitl [T1]; · iexact T1
    isplitl [F2]; · iexact F2
    isplitl [T2]; · iexact T2
    isplitl [F3]; · iexact F3
    iexact T3
  iapply (own_step m c (by rfl) (by rfl) (k0_off1_eq c) (k0_off2_eq c) (by decide) (by intros; rfl)) $$ Hx Hw Ho
  iintro ⟨Hx, Hw, Ho⟩
  iapply (pass_step m K c false 0 1 0 (pays 8) (pays 9) rfl (by decide) (origin_one false c) rfl (by decide) (by rfl) (Fin.ext (k0_dev11_eq c)) (by rfl) (by rfl) (by decide) (by decide)) $$ Hp HE HO
  iintro ⟨Hp, HO⟩
  iapply Hk
  isplitl [Hx Hx0 Hkept]
  · isplitl [Hx]; · iexact Hx
    isplitl [Hx0]; · iexact Hx0
    iexact Hkept
  isplitl [Hw Hw1 Hwz]
  · isplitl [Hw]; · iexact Hw
    unfold wKept
    isplitl [Hw1]; · iexact Hw1
    iexact Hwz
  isplitl [Ho]; · iexact Ho
  isplitl [Hp]; · iexact Hp
  iexact HO

end Cert.RingMM

end
-- ==== Proof.Body2.lean ====
/-
  The kernel's body: the second hop, the first hop's products and the third hop.
-/
module

public import proofs.«01_k».proof.Proof.Body1

@[expose] public section

noncomputable section

namespace Cert.RingMM

open Cert.KernelIdeal Cert.KernelIdeal.Gen
open Idealize.ShloMosaic Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

local notation "𝕄" => MT nD τ sig Unit (Elt F) ℕ UU ℕ

/-! ## Where the blocks of the result lie -/

theorem off_hop0 (c : Dev nD) (h : Fin 2) : k0_off3 c (BitVec.ofNat 32 h.val) = ![off c (.hop false h), 0] ∧ k0_off4 c (BitVec.ofNat 32 h.val) = ![off c (.hop false h), 0] := by
  have e : 512 * ((c.val + 7 - h.val) % 4) = off c (.hop false h) := by revert c h; decide
  rw [k0_off3_eq, k0_off4_eq, e]; exact ⟨rfl, rfl⟩
theorem off_hop1 (c : Dev nD) (h : Fin 2) : k0_off5 c (BitVec.ofNat 32 h.val) = ![off c (.hop true h), 0] ∧ k0_off6 c (BitVec.ofNat 32 h.val) = ![off c (.hop true h), 0] := by
  have e : 512 * ((c.val + h.val + 1) % 4) + 256 = off c (.hop true h) := by revert c h; decide
  rw [k0_off5_eq, k0_off6_eq, e]; exact ⟨rfl, rfl⟩
theorem off_fin0 (c : Dev nD) (s : Fin 4) : k0_off7 c (BitVec.ofNat 32 (64 * s.val)) = ![off c (.fin false s), 0] ∧ k0_off8 c (BitVec.ofNat 32 (64 * s.val)) = ![off c (.fin false s), 0] := by
  have e : 512 * ((c.val + 5) % 4) + 64 * s.val = off c (.fin false s) := by revert c s; decide
  rw [k0_off7_eq, k0_off8_eq, e]; exact ⟨rfl, rfl⟩
theorem off_fin1 (c : Dev nD) (s : Fin 4) : k0_off9 c (BitVec.ofNat 32 (64 * s.val)) = ![off c (.fin true s), 0] ∧ k0_off10 c (BitVec.ofNat 32 (64 * s.val)) = ![off c (.fin true s), 0] := by
  have e : 512 * ((c.val + 3) % 4) + 64 * s.val + 256 = off c (.fin true s) := by revert c s; decide
  rw [k0_off9_eq, k0_off10_eq, e]; exact ⟨rfl, rfl⟩

/-! ## The second hop -/

set_option maxHeartbeats 8000000 in
theorem phaseB (K : Dev nD × Slot → ℕ) (c : Dev nD) (v2 v5 v7 v224 : BitVec 32) {α : Type} {Q : α → sProp 𝕄} {k : _ → Prog (TpuEff nD τ sig (Elt F) Λ₀ .tc) α} :
    passOut m c 0 1 false 0
      ⊢ iprop(env m K -∗ own c (pays 9)
        -∗ iprop(passIn c 0 1 true 0 ∗ passIn c 0 1 false 1 ∗ passIn c 0 1 true 1 ∗ passIn c 0 1 false 2 ∗ passIn c 0 1 true 2 ∗ passIn c 0 1 false 3 ∗ passIn c 0 1 true 3)
        -∗ (∀ v, iprop(eight (fun d s => passOut m c 0 1 d s) ∗ own c (pays 16)) -∗ Run c (k v) Q)
        -∗ Run c (onArgs (k0_part10 (F := F)) c v5 v7 v224 >>= fun _ => onArgs (k0_part11 (F := F)) c v5 v7 >>= fun _ => onArgs (k0_part12 (F := F)) c v5 v7 >>= fun _ =>
            onArgs (k0_part13 (F := F)) c v5 v7 >>= fun _ => onArgs (k0_part14 (F := F)) c v2 v5 >>= k) Q) := by
  rw [k0_part10_eq_skeleton, k0_part11_eq_skeleton, k0_part12_eq_skeleton, k0_part13_eq_skeleton, k0_part14_eq_skeleton]
  unfold k0_part10_skel k0_part11_skel k0_part12_skel k0_part13_skel k0_part14_skel
  simp only [Prog.lift, Prog.bind_op, Prog.bind_ret, Prog.pure_eq_ret]
  iintro F0 #HE HO ⟨T0, F1, T1, F2, T2, F3, T3⟩ Hk
  iapply (pass_step m K c true 0 1 0 (pays 9) (pays 10) rfl (by decide) (origin_one true c) rfl (by decide) (by rfl) (Fin.ext (k0_dev12_eq c)) (by rfl) (by rfl)
    (by decide) (by decide)) $$ T0 HE HO; iintro ⟨T0, HO⟩
  iapply (pass_step m K c false 0 1 1 (pays 10) (pays 11) rfl (by decide) (origin_one false c) rfl (by decide) (by rfl) (Fin.ext (k0_dev13_eq c)) (by rfl) (by rfl)
    (by decide) (by decide)) $$ F1 HE HO; iintro ⟨F1, HO⟩
  iapply (pass_step m K c true 0 1 1 (pays 11) (pays 12) rfl (by decide) (origin_one true c) rfl (by decide) (by rfl) (Fin.ext (k0_dev14_eq c)) (by rfl) (by rfl)
    (by decide) (by decide)) $$ T1 HE HO; iintro ⟨T1, HO⟩
  iapply (pass_step m K c false 0 1 2 (pays 12) (pays 13) rfl (by decide) (origin_one false c) rfl (by decide) (by rfl) (Fin.ext (k0_dev15_eq c)) (by rfl) (by rfl)
    (by decide) (by decide)) $$ F2 HE HO; iintro ⟨F2, HO⟩
  iapply (pass_step m K c true 0 1 2 (pays 13) (pays 14) rfl (by decide) (origin_one true c) rfl (by decide) (by rfl) (Fin.ext (k0_dev16_eq c)) (by rfl) (by rfl)
    (by decide) (by decide)) $$ T2 HE HO; iintro ⟨T2, HO⟩
  iapply (pass_step m K c false 0 1 3 (pays 14) (pays 15) rfl (by decide) (origin_one false c) rfl (by decide) (by rfl) (Fin.ext (k0_dev17_eq c)) (by rfl) (by rfl)
    (by decide) (by decide)) $$ F3 HE HO; iintro ⟨F3, HO⟩
  iapply (pass_step m K c true 0 1 3 (pays 15) (pays 16) rfl (by decide) (origin_one true c) rfl (by decide) (by rfl) (Fin.ext (k0_dev18_eq c)) (by rfl) (by rfl)
    (by decide) (by decide)) $$ T3 HE HO; iintro ⟨T3, HO⟩
  iapply Hk
  isplitr [HO]
  · isplitl [F0]; · iexact F0
    isplitl [T0]; · iexact T0
    isplitl [F1]; · iexact F1
    isplitl [T1]; · iexact T1
    isplitl [F2]; · iexact F2
    isplitl [T2]; · iexact T2
    isplitl [F3]; · iexact F3
    iexact T3
  iexact HO

/-! ## The first hop's products, the third hop -/

set_option maxHeartbeats 8000000 in
theorem phaseC (K : Dev nD × Slot → ℕ) (c : Dev nD) (v2 v5 v7 v346 v348 v410 : BitVec 32) {α : Type} {Q : α → sProp 𝕄} {k : _ → Prog (TpuEff nD τ sig (Elt F) Λ₀ .tc) α} :
    iprop((LT false c (sset (0 : Fin 2).castSucc) fullShare.right (CT m false c) ∗ LT true c (sset (0 : Fin 2).castSucc) fullShare.right (CT m true c)) ∗ oIn c (.hop false 0) ∗ oIn c (.hop true 0))
      ⊢ iprop(env m K -∗ own c (pays 16) -∗ pt c cc0_scratch1 Finset.univ fullShare (Wt m c) -∗ eight (fun d s => passIn c 1 2 d s)
        -∗ (∀ v, iprop(((LT false c (sset (0 : Fin 2).castSucc) fullShare.right (CT m false c) ∗ LT true c (sset (0 : Fin 2).castSucc) fullShare.right (CT m true c)) ∗ oFl m c (.hop false 0) ∗ oFl m c (.hop true 0))
              ∗ pt c cc0_scratch1 Finset.univ fullShare (Wt m c) ∗ eight (fun d s => passOut m c 1 2 d s) ∗ own c []) -∗ Run c (k v) Q)
        -∗ Run c (onArgs (k0_part15 (F := F)) c v346 v348 v410 >>= fun _ => onArgs (k0_part16 (F := F)) c v5 v7 >>= fun _ => onArgs (k0_part17 (F := F)) c v5 v7 >>= fun v427 =>
            onArgs (k0_part18 (F := F)) c v5 v427 >>= fun _ => onArgs (k0_part19 (F := F)) c v5 v7 >>= fun _ => onArgs (k0_part20 (F := F)) c v5 v7 >>= fun _ =>
            onArgs (k0_part21 (F := F)) c v2 v5 >>= k) Q) := by
  rw [k0_part15_eq_skeleton, k0_part16_eq_skeleton, k0_part17_eq_skeleton, k0_part18_eq_skeleton, k0_part19_eq_skeleton, k0_part20_eq_skeleton, k0_part21_eq_skeleton]
  unfold k0_part15_skel k0_part16_skel k0_part17_skel k0_part18_skel k0_part19_skel k0_part20_skel k0_part21_skel
  simp only [Prog.lift, Prog.bind_op, Prog.bind_ret, Prog.pure_eq_ret]
  iintro ⟨⟨Lf, Lt⟩, Of, Ot⟩ #HE HO Hw ⟨F0, T0, F1, T1, F2, T2, F3, T3⟩ Hk
  iapply (hop_step m c false 0 (q := fullShare.right) (by rfl) (by rfl) (off_hop0 c 0).1 (off_hop0 c 0).2 (by decide) (by intros; rfl)) $$ Lf Hw Of
  iintro ⟨Lf, Hw, Of⟩
  iapply (hop_step m c true 0 (q := fullShare.right) (by rfl) (by rfl) (off_hop1 c 0).1 (off_hop1 c 0).2 (by decide) (by intros; rfl)) $$ Lt Hw Ot
  iintro ⟨Lt, Hw, Ot⟩
  iapply (pass_step m K c false 1 2 0 (pays 16) (pays 17) rfl (by decide) (origin_two false c) rfl (by decide) (by rfl) (Fin.ext (k0_dev19_eq c)) (by rfl) (by rfl)
    (by decide) (by decide)) $$ F0 HE HO; iintro ⟨F0, HO⟩
  iapply (pass_step m K c true 1 2 0 (pays 17) (pays 18) rfl (by decide) (origin_two true c) rfl (by decide) (by rfl) (Fin.ext (k0_dev20_eq c)) (by rfl) (by rfl)
    (by decide) (by decide)) $$ T0 HE HO; iintro ⟨T0, HO⟩
  iapply (pass_step m K c false 1 2 1 (pays 18) (pays 19) rfl (by decide) (origin_two false c) rfl (by decide) (by rfl) (Fin.ext (k0_dev21_eq c)) (by rfl) (by rfl)
    (by decide) (by decide)) $$ F1 HE HO; iintro ⟨F1, HO⟩
  iapply (pass_step m K c true 1 2 1 (pays 19) (pays 20) rfl (by decide) (origin_two true c) rfl (by decide) (by rfl) (Fin.ext (k0_dev22_eq c)) (by rfl) (by rfl)
    (by decide) (by decide)) $$ T1 HE HO; iintro ⟨T1, HO⟩
  iapply (pass_step m K c false 1 2 2 (pays 20) (pays 21) rfl (by decide) (origin_two false c) rfl (by decide) (by rfl) (Fin.ext (k0_dev23_eq c)) (by rfl) (by rfl)
    (by decide) (by decide)) $$ F2 HE HO; iintro ⟨F2, HO⟩
  iapply (pass_step m K c true 1 2 2 (pays 21) (pays 22) rfl (by decide) (origin_two true c) rfl (by decide) (by rfl) (Fin.ext (k0_dev24_eq c)) (by rfl) (by rfl)
    (by decide) (by decide)) $$ T2 HE HO; iintro ⟨T2, HO⟩
  iapply (pass_step m K c false 1 2 3 (pays 22) (pays 23) rfl (by decide) (origin_two false c) rfl (by decide) (by rfl) (Fin.ext (k0_dev25_eq c)) (by rfl) (by rfl)
    (by decide) (by decide)) $$ F3 HE HO; iintro ⟨F3, HO⟩
  iapply (pass_step m K c true 1 2 3 (pays 23) (pays 24) rfl (by decide) (origin_two true c) rfl (by decide) (by rfl) (Fin.ext (k0_dev26_eq c)) (by rfl) (by rfl)
    (by decide) (by decide)) $$ T3 HE HO; iintro ⟨T3, HO⟩
  iapply Hk
  isplitl [Lf Lt Of Ot]
  · isplitl [Lf Lt]
    · isplitl [Lf]; · iexact Lf
      iexact Lt
    isplitl [Of]; · iexact Of
    iexact Ot
  isplitl [Hw]; · iexact Hw
  isplitr [HO]
  · isplitl [F0]; · iexact F0
    isplitl [T0]; · iexact T0
    isplitl [F1]; · iexact F1
    isplitl [T1]; · iexact T1
    isplitl [F2]; · iexact F2
    isplitl [T2]; · iexact T2
    isplitl [F3]; · iexact F3
    iexact T3
  iexact HO

end Cert.RingMM

end
-- ==== Proof.Body3.lean ====
/-
  The kernel's body: the second hop's products, the windows of the last hop, the first copies out waited for.
-/
module

public import proofs.«01_k».proof.Proof.Body2

@[expose] public section

noncomputable section

namespace Cert.RingMM

open Cert.KernelIdeal Cert.KernelIdeal.Gen
open Idealize.ShloMosaic Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

local notation "𝕄" => MT nD τ sig Unit (Elt F) ℕ UU ℕ

/-! ## The second hop's products, the last hop's windows -/

/-- A resource of a device for each of the four blocks the hops give. -/
abbrev hops (Φ : Blk → sProp 𝕄) : sProp 𝕄 := iprop(Φ (.hop false 0) ∗ Φ (.hop true 0) ∗ Φ (.hop false 1) ∗ Φ (.hop true 1))

set_option maxHeartbeats 16000000 in
theorem phaseD (K : Dev nD × Slot → ℕ) (c : Dev nD) (v2 v5 v7 v528 v630 : BitVec 32) {α : Type} {Q : α → sProp 𝕄} {k : PUnit → Prog (TpuEff nD τ sig (Elt F) Λ₀ .tc) α} :
    iprop((LT false c (sset (1 : Fin 2).castSucc) fullShare.right (CT m false c) ∗ LT true c (sset (1 : Fin 2).castSucc) fullShare.right (CT m true c)) ∗ oIn c (.hop false 1) ∗ oIn c (.hop true 1))
      ⊢ iprop(env m K -∗ own c [] -∗ pt c cc0_scratch1 Finset.univ fullShare (Wt m c) -∗ iprop(oFl m c .own ∗ oFl m c (.hop false 0) ∗ oFl m c (.hop true 0))
        -∗ eight (fun d s => lastIn c d s)
        -∗ (iprop((LT false c (sset (1 : Fin 2).castSucc) fullShare.right (CT m false c) ∗ LT true c (sset (1 : Fin 2).castSucc) fullShare.right (CT m true c))
              ∗ (oDone m c .own ∗ hops fun b => oDone m c b)
              ∗ pt c cc0_scratch1 Finset.univ fullShare (Wt m c) ∗ eight (fun d s => lastOut m c d s) ∗ own c []) -∗ Run c (k ⟨⟩) Q)
        -∗ Run c (onArgs (k0_part22 (F := F)) c v2 v528 v630 >>= fun r => onArgs (k0_part23 (F := F)) c v2 v7 r.1 r.2 >>= fun v587 =>
            onArgs (k0_part24 (F := F)) c v2 v5 v587 >>= fun v616 => onArgs (k0_part25 (F := F)) c v2 v7 v616 >>= fun r => onArgs (k0_part26 (F := F)) c v2 v5 r.1 r.2 >>= fun r =>
            onArgs (k0_part27 (F := F)) c v2 v7 r.1 r.2.1 r.2.2 >>= fun r => onArgs (k0_part28 (F := F)) c v2 v5 r.1 r.2.1 r.2.2 >>= fun r =>
            onArgs (k0_part29 (F := F)) c v2 v7 r.1 r.2 >>= fun r => onArgs (k0_part30 (F := F)) c v2 v5 r.1 r.2.1 r.2.2.1 r.2.2.2 >>= fun r =>
            onArgs (k0_part31 (F := F)) c r.1 r.2.1 r.2.2 >>= k) Q) := by
  rw [k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold k0_part22_skel k0_part23_skel k0_part24_skel k0_part25_skel k0_part26_skel k0_part27_skel k0_part28_skel k0_part29_skel k0_part30_skel k0_part31_skel
  simp only [Prog.lift, Prog.bind_op, Prog.bind_ret, Prog.pure_eq_ret]
  iintro ⟨⟨Lf, Lt⟩, Of, Ot⟩ #HE HO Hw ⟨Oo, Oa, Ob⟩ ⟨F0, T0, F1, T1, F2, T2, F3, T3⟩ Hk
  iapply (hop_step m c false 1 (q := fullShare.right) (by rfl) (by rfl) (off_hop0 c 1).1 (off_hop0 c 1).2 (by decide) (by intros; rfl)) $$ Lf Hw Of
  iintro ⟨Lf, Hw, Of⟩
  iapply (hop_step m c true 1 (q := fullShare.right) (by rfl) (by rfl) (off_hop1 c 1).1 (off_hop1 c 1).2 (by decide) (by intros; rfl)) $$ Lt Hw Ot
  iintro ⟨Lt, Hw, Ot⟩
  iapply (last_step m K c false 0 (by decide) (by decide) (by rfl) (by rfl) (off_fin0 c 0).1 (off_fin0 c 0).2 (by decide) (by intros; rfl)) $$ F0 HE Hw HO
  iintro ⟨F0, Hw, HO⟩
  iapply (last_step m K c true 0 (by decide) (by decide) (by rfl) (by rfl) (off_fin1 c 0).1 (off_fin1 c 0).2 (by decide) (by intros; rfl)) $$ T0 HE Hw HO
  iintro ⟨T0, Hw, HO⟩
  iapply (last_step m K c false 1 (by decide) (by decide) (by rfl) (by rfl) (off_fin0 c 1).1 (off_fin0 c 1).2 (by decide) (by intros; rfl)) $$ F1 HE Hw HO
  iintro ⟨F1, Hw, HO⟩
  iapply (last_step m K c true 1 (by decide) (by decide) (by rfl) (by rfl) (off_fin1 c 1).1 (off_fin1 c 1).2 (by decide) (by intros; rfl)) $$ T1 HE Hw HO
  iintro ⟨T1, Hw, HO⟩
  iapply (last_step m K c false 2 (by decide) (by decide) (by rfl) (by rfl) (off_fin0 c 2).1 (off_fin0 c 2).2 (by decide) (by intros; rfl)) $$ F2 HE Hw HO
  iintro ⟨F2, Hw, HO⟩
  iapply (last_step m K c true 2 (by decide) (by decide) (by rfl) (by rfl) (off_fin1 c 2).1 (off_fin1 c 2).2 (by decide) (by intros; rfl)) $$ T2 HE Hw HO
  iintro ⟨T2, Hw, HO⟩
  iapply (last_step m K c false 3 (by decide) (by decide) (by rfl) (by rfl) (off_fin0 c 3).1 (off_fin0 c 3).2 (by decide) (by intros; rfl)) $$ F3 HE Hw HO
  iintro ⟨F3, Hw, HO⟩
  iapply (last_step m K c true 3 (by decide) (by decide) (by rfl) (by rfl) (off_fin1 c 3).1 (off_fin1 c 3).2 (by decide) (by intros; rfl)) $$ T3 HE Hw HO
  iintro ⟨T3, Hw, HO⟩
  iapply (o_done m K c .own (by decide) (by rfl)) $$ Oo HE HO; iintro ⟨Oo, HO⟩
  iapply (o_done m K c (.hop false 0) (by decide) (by rfl)) $$ Oa HE HO; iintro ⟨Oa, HO⟩
  iapply (o_done m K c (.hop true 0) (by decide) (by rfl)) $$ Ob HE HO; iintro ⟨Ob, HO⟩
  iapply (o_done m K c (.hop false 1) (by decide) (by rfl)) $$ Of HE HO; iintro ⟨Of, HO⟩
  iapply (o_done m K c (.hop true 1) (by decide) (by rfl)) $$ Ot HE HO; iintro ⟨Ot, HO⟩
  iapply Hk
  isplitl [Lf Lt]
  · isplitl [Lf]; · iexact Lf
    iexact Lt
  isplitl [Oo Oa Ob Of Ot]
  · isplitl [Oo]; · iexact Oo
    isplitl [Oa]; · iexact Oa
    isplitl [Ob]; · iexact Ob
    isplitl [Of]; · iexact Of
    iexact Ot
  isplitl [Hw]; · iexact Hw
  isplitr [HO]
  · isplitl [F0]; · iexact F0
    isplitl [T0]; · iexact T0
    isplitl [F1]; · iexact F1
    isplitl [T1]; · iexact T1
    isplitl [F2]; · iexact F2
    isplitl [T2]; · iexact T2
    isplitl [F3]; · iexact F3
    iexact T3
  iexact HO

end Cert.RingMM

end
-- ==== Proof.Body4.lean ====
/-
  The kernel's body: the last copies out and the sends waited for.
-/
module

public import proofs.«01_k».proof.Proof.Body1

@[expose] public section

noncomputable section

namespace Cert.RingMM

open Cert.KernelIdeal Cert.KernelIdeal.Gen
open Idealize.ShloMosaic Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

local notation "𝕄" => MT nD τ sig Unit (Elt F) ℕ UU ℕ

/-! ## The last copies out, the sends waited for -/

set_option maxHeartbeats 16000000 in
theorem phaseE (K : Dev nD × Slot → ℕ) (c : Dev nD) {α : Type} {Q : α → sProp 𝕄} {k : PUnit → Prog (TpuEff nD τ sig (Elt F) Λ₀ .tc) α} :
    eight (fun d s => oFl m c (.fin d s))
      ⊢ iprop(env m K -∗ own c [] -∗ eight (fun d s => sent c (d, 0, s)) -∗ eight (fun d s => sent c (d, 1, s))
        -∗ iprop(sent c (false, 2, 0) ∗ sent c (true, 2, 0) ∗ sent c (false, 2, 1) ∗ sent c (true, 2, 1))
        -∗ (iprop(eight (fun d s => oDone m c (.fin d s)) ∗ eight (fun d s => drained m c (d, 0, s)) ∗ eight (fun d s => drained m c (d, 1, s))
              ∗ (drained m c (false, 2, 0) ∗ drained m c (true, 2, 0) ∗ drained m c (false, 2, 1) ∗ drained m c (true, 2, 1)) ∗ own c []) -∗ Run c (k ⟨⟩) Q)
        -∗ Run c (onArgs (k0_part32 (F := F)) c >>= fun _ => onArgs (k0_part33 (F := F)) c >>= fun _ => onArgs (k0_part34 (F := F)) >>= fun _ => onArgs (k0_part35 (F := F)) >>= fun _ => onArgs (k0_part36 (F := F)) >>= fun _ => onArgs (k0_part37 (F := F)) >>= fun _ => onArgs (k0_part38 (F := F)) >>= k) Q) := by
  rw [k0_part32_eq_skeleton, k0_part33_eq_skeleton, k0_part34_eq_skeleton, k0_part35_eq_skeleton, k0_part36_eq_skeleton, k0_part37_eq_skeleton, k0_part38_eq_skeleton]
  unfold k0_part32_skel k0_part33_skel k0_part34_skel k0_part35_skel k0_part36_skel k0_part37_skel k0_part38_skel
  simp only [Prog.lift, Prog.bind_op, Prog.bind_ret, Prog.pure_eq_ret]
  iintro ⟨F0, T0, F1, T1, F2, T2, F3, T3⟩ #HE HO ⟨AF0, AT0, AF1, AT1, AF2, AT2, AF3, AT3⟩ ⟨BF0, BT0, BF1, BT1, BF2, BT2, BF3, BT3⟩ ⟨CF0, CT0, CF1, CT1⟩ Hk
  iapply (o_done m K c (.fin false 0) (by decide) (by rfl)) $$ F0 HE HO; iintro ⟨F0, HO⟩
  iapply (o_done m K c (.fin true 0) (by decide) (by rfl)) $$ T0 HE HO; iintro ⟨T0, HO⟩
  iapply (o_done m K c (.fin false 1) (by decide) (by rfl)) $$ F1 HE HO; iintro ⟨F1, HO⟩
  iapply (o_done m K c (.fin true 1) (by decide) (by rfl)) $$ T1 HE HO; iintro ⟨T1, HO⟩
  iapply (o_done m K c (.fin false 2) (by decide) (by rfl)) $$ F2 HE HO; iintro ⟨F2, HO⟩
  iapply (o_done m K c (.fin true 2) (by decide) (by rfl)) $$ T2 HE HO; iintro ⟨T2, HO⟩
  iapply (o_done m K c (.fin false 3) (by decide) (by rfl)) $$ F3 HE HO; iintro ⟨F3, HO⟩
  iapply (o_done m K c (.fin true 3) (by decide) (by rfl)) $$ T3 HE HO; iintro ⟨T3, HO⟩
  iapply (drain_done m K c (false, 0, 0) (by decide) (by decide)) $$ AF0 HE HO; iintro ⟨AF0, HO⟩
  iapply (drain_done m K c (true, 0, 0) (by decide) (by decide)) $$ AT0 HE HO; iintro ⟨AT0, HO⟩
  iapply (drain_done m K c (false, 0, 1) (by decide) (by decide)) $$ AF1 HE HO; iintro ⟨AF1, HO⟩
  iapply (drain_done m K c (true, 0, 1) (by decide) (by decide)) $$ AT1 HE HO; iintro ⟨AT1, HO⟩
  iapply (drain_done m K c (false, 0, 2) (by decide) (by decide)) $$ AF2 HE HO; iintro ⟨AF2, HO⟩
  iapply (drain_done m K c (true, 0, 2) (by decide) (by decide)) $$ AT2 HE HO; iintro ⟨AT2, HO⟩
  iapply (drain_done m K c (false, 0, 3) (by decide) (by decide)) $$ AF3 HE HO; iintro ⟨AF3, HO⟩
  iapply (drain_done m K c (true, 0, 3) (by decide) (by decide)) $$ AT3 HE HO; iintro ⟨AT3, HO⟩
  iapply (drain_done m K c (false, 1, 0) (by decide) (by decide)) $$ BF0 HE HO; iintro ⟨BF0, HO⟩
  iapply (drain_done m K c (true, 1, 0) (by decide) (by decide)) $$ BT0 HE HO; iintro ⟨BT0, HO⟩
  iapply (drain_done m K c (false, 1, 1) (by decide) (by decide)) $$ BF1 HE HO; iintro ⟨BF1, HO⟩
  iapply (drain_done m K c (true, 1, 1) (by decide) (by decide)) $$ BT1 HE HO; iintro ⟨BT1, HO⟩
  iapply (drain_done m K c (false, 1, 2) (by decide) (by decide)) $$ BF2 HE HO; iintro ⟨BF2, HO⟩
  iapply (drain_done m K c (true, 1, 2) (by decide) (by decide)) $$ BT2 HE HO; iintro ⟨BT2, HO⟩
  iapply (drain_done m K c (false, 1, 3) (by decide) (by decide)) $$ BF3 HE HO; iintro ⟨BF3, HO⟩
  iapply (drain_done m K c (true, 1, 3) (by decide) (by decide)) $$ BT3 HE HO; iintro ⟨BT3, HO⟩
  iapply (drain_done m K c (false, 2, 0) (by decide) (by decide)) $$ CF0 HE HO; iintro ⟨CF0, HO⟩
  iapply (drain_done m K c (true, 2, 0) (by decide) (by decide)) $$ CT0 HE HO; iintro ⟨CT0, HO⟩
  iapply (drain_done m K c (false, 2, 1) (by decide) (by decide)) $$ CF1 HE HO; iintro ⟨CF1, HO⟩
  iapply (drain_done m K c (true, 2, 1) (by decide) (by decide)) $$ CT1 HE HO; iintro ⟨CT1, HO⟩
  iapply Hk
  isplitl [F0 T0 F1 T1 F2 T2 F3 T3]
  · isplitl [F0]; · iexact F0
    isplitl [T0]; · iexact T0
    isplitl [F1]; · iexact F1
    isplitl [T1]; · iexact T1
    isplitl [F2]; · iexact F2
    isplitl [T2]; · iexact T2
    isplitl [F3]; · iexact F3
    iexact T3
  isplitl [AF0 AT0 AF1 AT1 AF2 AT2 AF3 AT3]
  · isplitl [AF0]; · iexact AF0
    isplitl [AT0]; · iexact AT0
    isplitl [AF1]; · iexact AF1
    isplitl [AT1]; · iexact AT1
    isplitl [AF2]; · iexact AF2
    isplitl [AT2]; · iexact AT2
    isplitl [AF3]; · iexact AF3
    iexact AT3
  isplitl [BF0 BT0 BF1 BT1 BF2 BT2 BF3 BT3]
  · isplitl [BF0]; · iexact BF0
    isplitl [BT0]; · iexact BT0
    isplitl [BF1]; · iexact BF1
    isplitl [BT1]; · iexact BT1
    isplitl [BF2]; · iexact BF2
    isplitl [BT2]; · iexact BT2
    isplitl [BF3]; · iexact BF3
    iexact BT3
  isplitl [CF0 CT0 CF1 CT1]
  · isplitl [CF0]; · iexact CF0
    isplitl [CT0]; · iexact CT0
    isplitl [CF1]; · iexact CF1
    iexact CT1
  iexact HO

end Cert.RingMM

end
-- ==== Proof.Joins.lean ====
/-
  Taking the buffers apart for the body, and putting them together after it.
-/
module

public import proofs.«01_k».proof.Proof.Body3
public import proofs.«01_k».proof.Proof.Body4

@[expose] public section

noncomputable section

namespace Cert.RingMM

open Cert.KernelIdeal Cert.KernelIdeal.Gen
open Idealize.ShloMosaic Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

local notation "𝕄" => MT nD τ sig Unit (Elt F) ℕ UU ℕ

/-! ## Bundles -/

theorem eight_sep (A B : Bool → Fin 4 → sProp 𝕄) : eight (fun d s => iprop(A d s ∗ B d s)) = iprop(eight A ∗ eight B) := by
  rw [← eight_prod, ← eight_prod A, ← eight_prod B]
  exact bigSep_sep' Finset.univ (fun p : Bool × Fin 4 => A p.1 p.2) fun p => B p.1 p.2
theorem eight_mono {A B : Bool → Fin 4 → sProp 𝕄} (h : ∀ d s, A d s ⊢ B d s) : eight A ⊢ eight B := by
  rw [← eight_prod, ← eight_prod B]
  exact bigSep_mono fun p _ => h p.1 p.2
theorem eight_zip {A B C : Bool → Fin 4 → sProp 𝕄} (h : ∀ d s, iprop(A d s ∗ B d s) ⊢ C d s) : eight A ⊢ iprop(eight B -∗ eight C) := by
  iintro HA HB
  iapply ((Entails.of_eq (eight_sep A B).symm).trans (eight_mono h))
  isplitl [HA]; · iexact HA
  iexact HB
theorem eight_unzip {A B C : Bool → Fin 4 → sProp 𝕄} (h : ∀ d s, C d s ⊢ iprop(A d s ∗ B d s)) : eight C ⊢ iprop(eight A ∗ eight B) :=
  (eight_mono h).trans (Entails.of_eq (eight_sep A B))
/-- Direction by direction. -/
theorem eight_two (A : Bool → Fin 4 → sProp 𝕄) : eight A = iprop(four (A false) ∗ four (A true)) := by
  refine equiv_iff.mp ⟨?_, ?_⟩
  · show eight A ⊢ iprop(four (A false) ∗ four (A true))
    iintro ⟨F0, T0, F1, T1, F2, T2, F3, T3⟩
    isplitl [F0 F1 F2 F3]
    · isplitl [F0]; · iexact F0
      isplitl [F1]; · iexact F1
      isplitl [F2]; · iexact F2
      iexact F3
    isplitl [T0]; · iexact T0
    isplitl [T1]; · iexact T1
    isplitl [T2]; · iexact T2
    iexact T3
  · show iprop(four (A false) ∗ four (A true)) ⊢ eight A
    iintro ⟨⟨F0, F1, F2, F3⟩, T0, T1, T2, T3⟩
    isplitl [F0]; · iexact F0
    isplitl [T0]; · iexact T0
    isplitl [F1]; · iexact F1
    isplitl [T1]; · iexact T1
    isplitl [F2]; · iexact F2
    isplitl [T2]; · iexact T2
    isplitl [F3]; · iexact F3
    iexact T3

theorem blocks_sep (A B : Blk → sProp 𝕄) : blocks (fun b => iprop(A b ∗ B b)) = iprop(blocks A ∗ blocks B) := by
  rw [← blocks_blk, ← blocks_blk A, ← blocks_blk B]
  exact bigSep_sep' Finset.univ A B
theorem blocks_mono {A B : Blk → sProp 𝕄} (h : ∀ b, A b ⊢ B b) : blocks A ⊢ blocks B := by
  rw [← blocks_blk, ← blocks_blk B]
  exact bigSep_mono fun b _ => h b
theorem blocks_zip {A B C : Blk → sProp 𝕄} (h : ∀ b, iprop(A b ∗ B b) ⊢ C b) : blocks A ⊢ iprop(blocks B -∗ blocks C) := by
  iintro HA HB
  iapply ((Entails.of_eq (blocks_sep A B).symm).trans (blocks_mono h))
  isplitl [HA]; · iexact HA
  iexact HB

/-- A resource for every link, hop by hop. -/
abbrev links (Φ : Link → sProp 𝕄) : sProp 𝕄 := iprop(eight (fun d s => Φ (d, 0, s)) ∗ eight (fun d s => Φ (d, 1, s)) ∗ eight (fun d s => Φ (d, 2, s)))
theorem links_link (Φ : Link → sProp 𝕄) : bigSep Finset.univ Φ = links Φ := by
  have e : (fun d : Bool => bigSep Finset.univ fun p : Fin 3 × Fin 4 => Φ (d, p))
      = fun d : Bool => iprop((bigSep Finset.univ fun s : Fin 4 => Φ (d, 0, s)) ∗ (bigSep Finset.univ fun s : Fin 4 => Φ (d, 1, s)) ∗ bigSep Finset.univ fun s : Fin 4 => Φ (d, 2, s)) := by
    funext d
    rw [bigSep_univ_prod, three_fin3]
  rw [bigSep_univ_prod, e, bigSep_sep', bigSep_sep', ← bigSep_univ_prod (fun p : Bool × Fin 4 => Φ (p.1, 0, p.2)), ← bigSep_univ_prod (fun p : Bool × Fin 4 => Φ (p.1, 1, p.2)),
    ← bigSep_univ_prod (fun p : Bool × Fin 4 => Φ (p.1, 2, p.2)), eight_prod (fun d s => Φ (d, 0, s)), eight_prod (fun d s => Φ (d, 1, s)), eight_prod (fun d s => Φ (d, 2, s))]

/-! ## Landing buffers -/

section Land
variable (c : Dev nD)

/-- A hop's eight windows are the hop's part of both landing buffers. -/
theorem hop_both (h : Fin 3) (q : PosShare TreeShare) :
    eight (fun d s => LT d c (lset h s) q (CT m d c)) = iprop(LT false c (sset h) q (CT m false c) ∗ LT true c (sset h) q (CT m true c)) := by
  rw [eight_two, LT_windows, LT_windows]

/-- A window of the landing buffer at the neighbour a device sends to. -/
def landW (h : Fin 3) (d : Bool) (s : Fin 4) : sProp 𝕄 := iprop(∃ f : Vec F S3x256x2048 .bf16, LT d (peer d c) (lset h s) fullShare f)
/-- A link's tokens, and the place of its send cell. -/
def linkS (h : Fin 3) (d : Bool) (s : Fin 4) : sProp 𝕄 :=
  iprop((dutyTok ER (sndCell (d, h, s) c) 0 false ∗ dutyTok ER (rcvCell (d, h, s) (peer d c)) 0 false) ∗ atPos ER (sndCell (d, h, s) c) 0 ∅ 0)

theorem sndR_eight (h : Fin 3) : eight (linkS (F := F) c h) ⊢ iprop(eight (landW (F := F) c h) -∗ eight fun d s => sndR c (d, h, s)) :=
  eight_zip fun d s => by
    unfold landW linkS sndR
    iintro ⟨H1, H2⟩
    isplitl [H2]; · iexact H2
    iexact H1

theorem land_hop (d : Bool) (h : Fin 3) (f : Vec F S3x256x2048 .bf16) : LT d (peer d c) (sset h) fullShare f ⊢ four (landW (F := F) c h d) := by
  rw [LT_windows]
  unfold landW
  iintro ⟨H0, H1, H2, H3⟩
  isplitl [H0]; · iexists f; iexact H0
  isplitl [H1]; · iexists f; iexact H1
  isplitl [H2]; · iexists f; iexact H2
  iexists f; iexact H3

theorem land_dir (d : Bool) : barPay (F := F) c d ⊢ iprop(four (landW (F := F) c 0 d) ∗ four (landW (F := F) c 1 d) ∗ four (landW (F := F) c 2 d)) := by
  unfold barPay
  iintro ⟨%f, H⟩
  ihave ⟨H0, H1, H2⟩ := (Entails.of_eq (LT_hops (peer d c) fullShare d f)) $$ H
  isplitl [H0]; · iapply (land_hop c d 0 f); iexact H0
  isplitl [H1]; · iapply (land_hop c d 1 f); iexact H1
  iapply (land_hop c d 2 f); iexact H2

/-- Both neighbours' landing buffers, window by window. -/
theorem land_all : iprop(barPay (F := F) c false ∗ barPay (F := F) c true) ⊢ iprop(eight (landW (F := F) c 0) ∗ eight (landW (F := F) c 1) ∗ eight (landW (F := F) c 2)) := by
  rw [eight_two (landW c 0), eight_two (landW c 1), eight_two (landW c 2)]
  iintro ⟨HF, HT⟩
  ihave ⟨F0, F1, F2⟩ := (land_dir (F := F) c false) $$ HF
  ihave ⟨T0, T1, T2⟩ := (land_dir (F := F) c true) $$ HT
  isplitl [F0 T0]
  · isplitl [F0]; · iexact F0
    iexact T0
  isplitl [F1 T1]
  · isplitl [F1]; · iexact F1
    iexact T1
  isplitl [F2]; · iexact F2
  iexact T2

theorem land_back (d : Bool) :
    iprop((LT d c (sset 0) fullShare.left (CT m d c) ∗ LT d c (sset 0) fullShare.right (CT m d c))
      ∗ (LT d c (sset 1) fullShare.left (CT m d c) ∗ LT d c (sset 1) fullShare.right (CT m d c)) ∗ LT d c (sset 2) fullShare (CT m d c))
      ⊢ LT d c Finset.univ fullShare (CT m d c) := by
  rw [LT_hops c fullShare d]
  exact BI.sep_mono (LT_whole d c _ _) (sep_mono_left (LT_whole d c _ _))

end Land

/-! ## What the body starts from and ends with -/

section Ends
variable (c : Dev nD)

/-- The input copies, ready. -/
theorem x_ready (f0 : Buf (Elt F) ((c : Thread nD τ).loc cc0_scratch0)) :
    eight (fun d s => semVal ((c : Thread nD τ), .dma (xS (xj d s))) 0)
      ⊢ iprop(pt c main_arg0 Finset.univ fullShare (X m c) -∗ pt c cc0_scratch0 Finset.univ fullShare f0 -∗ eight fun d s => xIn m c (xj d s)) := by
  rw [pt_arg0, pt_scr0]
  iintro H1 H2 H3
  ihave H := (eight_zip (C := fun d s => iprop(pt c main_arg0 (xset (xj d s)) fullShare (X m c) ∗ semVal ((c : Thread nD τ), .dma (xS (xj d s))) 0)) fun d s => Entails.refl _) $$ H2 H1
  iapply (eight_zip fun d s => ?_) $$ H3 H
  show iprop(pt c cc0_scratch0 (xset (xj d s)) fullShare f0 ∗ (pt c main_arg0 (xset (xj d s)) fullShare (X m c) ∗ semVal ((c : Thread nD τ), .dma (xS (xj d s))) 0)) ⊢ xIn m c (xj d s)
  unfold xIn
  iintro ⟨H0, H1, H2⟩
  isplitl [H1]; · iexact H1
  isplitl [H0]; · iexists f0; iexact H0
  iexact H2

/-- The copies out, ready. -/
theorem o_ready (f2 : Buf (Elt F) ((c : Thread nD τ).loc cc0_scratch2)) (f : Buf (Elt F) ((c : Thread nD τ).loc main_v1)) :
    blocks (fun b => semVal ((c : Thread nD τ), .dma (oS b)) 0)
      ⊢ iprop(pt c cc0_scratch2 Finset.univ fullShare f2 -∗ pt c main_v1 Finset.univ fullShare f -∗ blocks fun b => oIn (F := F) c b) := by
  rw [pt_scr2, pt_out]
  iintro H1 H2 H3
  ihave H := (blocks_zip (C := fun b => iprop(pt c main_v1 (oset c b) fullShare f ∗ semVal ((c : Thread nD τ), .dma (oS b)) 0)) fun b => Entails.refl _) $$ H3 H1
  iapply (blocks_zip fun b => ?_) $$ H2 H
  show iprop(pt c cc0_scratch2 (oset c b) fullShare f2 ∗ (pt c main_v1 (oset c b) fullShare f ∗ semVal ((c : Thread nD τ), .dma (oS b)) 0)) ⊢ oIn c b
  unfold oIn
  iintro ⟨H0, H1, H2⟩
  isplitl [H0]; · iexists f2; iexact H0
  isplitl [H1]; · iexists f; iexact H1
  iexact H2

/-- The result whole, its copies' semaphores at zero. -/
theorem o_back : blocks (fun b => oDone m c b)
    ⊢ iprop((pt c main_v1 Finset.univ fullShare (OUT m c) ∗ pt c cc0_scratch2 Finset.univ fullShare (OUT m c)) ∗ blocks fun b => semVal ((c : Thread nD τ), .dma (oS b)) 0) := by
  rw [pt_scr2, pt_out, ← blocks_sep, ← blocks_sep]
  exact blocks_mono fun b => by unfold oDone oOut; exact Entails.refl _

/-- A hop's receives ahead, with its windows' way on. -/
theorem pass_ready (h' h : Fin 3) : eight (fun d s => rcvR (F := F) c (d, h', s)) ⊢ iprop(eight (fun d s => sndR (F := F) c (d, h, s)) -∗ eight fun d s => passIn (F := F) c h' h d s) :=
  eight_zip fun d s => by unfold passIn; exact Entails.refl _
theorem pass_back (h' h : Fin 3) : eight (fun d s => passOut m c h' h d s)
    ⊢ iprop((LT false c (sset h') fullShare.right (CT m false c) ∗ LT true c (sset h') fullShare.right (CT m true c))
        ∗ eight (fun d s => semVal (rcvCell (d, h', s) c) 0) ∗ eight fun d s => sent (F := F) c (d, h, s)) := by
  rw [← hop_both, ← eight_sep, ← eight_sep]
  exact eight_mono fun d s => by unfold passOut; exact Entails.refl _
theorem last_ready : eight (fun d s => rcvR (F := F) c (d, 2, s)) ⊢ iprop(eight (fun d s => oIn (F := F) c (.fin d s)) -∗ eight fun d s => lastIn (F := F) c d s) :=
  eight_zip fun d s => by unfold lastIn; exact Entails.refl _
theorem last_back : eight (fun d s => lastOut m c d s)
    ⊢ iprop((LT false c (sset 2) fullShare (CT m false c) ∗ LT true c (sset 2) fullShare (CT m true c))
        ∗ eight (fun d s => semVal (rcvCell (d, 2, s) c) 0) ∗ eight fun d s => oFl m c (.fin d s)) := by
  rw [← hop_both, ← eight_sep, ← eight_sep]
  exact eight_mono fun d s => by unfold lastOut; exact Entails.refl _
theorem kept_back : eight (fun d s => winKept (F := F) c d s)
    ⊢ iprop(eight (fun d s => semVal ((c : Thread nD τ), .dma (xS (xj d s))) 0) ∗ eight fun d s => sent (F := F) c (d, 0, s)) :=
  eight_unzip fun d s => by unfold winKept; exact Entails.refl _

/-- The sent windows back: the rounded rows whole, -/
theorem drained_rows : eight (fun d s => drained m c (d, 0, s))
    ⊢ iprop(pt c cc0_scratch3 Finset.univ fullShare (XS m c) ∗ eight fun d s => semVal (sndCell (d, 0, s) c) 0) := by
  rw [pt_scr3, ← eight_sep]
  exact eight_mono fun d s => Entails.refl _
/-- and the lent halves of the landed windows. -/
theorem drained_one : eight (fun d s => drained m c (d, 1, s))
    ⊢ iprop((LT false c (sset 0) fullShare.left (CT m false c) ∗ LT true c (sset 0) fullShare.left (CT m true c)) ∗ eight fun d s => semVal (sndCell (d, 1, s) c) 0) := by
  rw [← hop_both, ← eight_sep]
  exact eight_mono fun d s => Entails.refl _
theorem drained_two : eight (fun d s => drained m c (d, 2, s))
    ⊢ iprop((LT false c (sset 1) fullShare.left (CT m false c) ∗ LT true c (sset 1) fullShare.left (CT m true c)) ∗ eight fun d s => semVal (sndCell (d, 2, s) c) 0) := by
  rw [← hop_both, ← eight_sep]
  exact eight_mono fun d s => Entails.refl _

/-- The windows of the first hop: their input copies under way, the rows to round them into, their links. -/
theorem win_ready (f3 : Buf (Elt F) ((c : Thread nD τ).loc cc0_scratch3)) :
    pt c cc0_scratch3 Finset.univ fullShare f3 ⊢ iprop(eight (fun d s => xFl m c (xj d s)) -∗ eight (fun d s => sndR (F := F) c (d, 0, s)) -∗ eight fun d s => winIn m c d s) := by
  rw [pt_scr3]
  iintro H1 H2 H3
  ihave H := (eight_zip (C := fun d s => iprop(pt c cc0_scratch3 (xset (xj d s)) fullShare f3 ∗ sndR (F := F) c (d, 0, s))) fun d s => Entails.refl _) $$ H1 H3
  iapply (eight_zip fun d s => ?_) $$ H2 H
  show iprop(xFl m c (xj d s) ∗ (pt c cc0_scratch3 (xset (xj d s)) fullShare f3 ∗ sndR (F := F) c (d, 0, s))) ⊢ winIn m c d s
  unfold winIn
  iintro ⟨H0, H1, H2⟩
  isplitl [H0]; · iexact H0
  isplitl [H1]; · iexists f3; iexact H1
  iexact H2

end Ends

end Cert.RingMM

end
-- ==== Proof.Body.lean ====
/-
  The kernel's body on one device, phase after phase.
-/
module

public import proofs.«01_k».proof.Proof.Joins

@[expose] public section

noncomputable section

namespace Cert.RingMM

open Cert.KernelIdeal Cert.KernelIdeal.Gen
open Idealize.ShloMosaic Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

local notation "𝕄" => MT nD τ sig Unit (Elt F) ℕ UU ℕ

/-- The buffers of the kernel, at whatever they hold. -/
def scratches (c : Dev nD) : sProp 𝕄 :=
  iprop((∃ f, pt c cc0_scratch0 Finset.univ fullShare f) ∗ (∃ f, pt c cc0_scratch1 Finset.univ fullShare f) ∗ (∃ f, pt c cc0_scratch2 Finset.univ fullShare f)
    ∗ (∃ f, pt c cc0_scratch3 Finset.univ fullShare f) ∗ (∃ f : Vec F S3x256x2048 .bf16, LT false c Finset.univ fullShare f) ∗ (∃ f : Vec F S3x256x2048 .bf16, LT true c Finset.univ fullShare f))
/-- The semaphores of the copies within a device, at zero. -/
def localSems (c : Dev nD) : sProp 𝕄 :=
  iprop(eight (fun d s => semVal ((c : Thread nD τ), .dma (xS (xj d s))) 0) ∗ semVal ((c : Thread nD τ), .dma wS) 0 ∗ blocks (fun b => semVal ((c : Thread nD τ), .dma (oS b)) 0))
/-- The tokens of a device in the exchange: for its two signals, for its own barrier, for the links it sends on, for the landings it waits for. -/
def tokens (c : Dev nD) : sProp 𝕄 :=
  iprop((dutyTok ER (barCell (peer (!false) c)) 0 false ∗ dutyTok ER (barCell (peer (!true) c)) 0 true) ∗ (atPos ER (barCell c) 0 ∅ 0 ∗ cred (tallyAt (barCell c) () 2))
    ∗ links (fun t => linkS (F := F) c t.2.1 t.1 t.2.2) ∗ links (fun t => rcvR (F := F) c t))
/-- What the body starts from, -/
def Before (c : Dev nD) : sProp 𝕄 :=
  iprop((pt c main_arg0 Finset.univ fullShare (X m c) ∗ pt c main_arg1 Finset.univ fullShare (Wt m c) ∗ ∃ f, pt c main_v1 Finset.univ fullShare f)
    ∗ scratches c ∗ localSems c ∗ tokens c)
/-- and ends with. -/
def After (c : Dev nD) : sProp 𝕄 :=
  iprop((pt c main_arg0 Finset.univ fullShare (X m c) ∗ pt c main_arg1 Finset.univ fullShare (Wt m c) ∗ pt c main_v1 Finset.univ fullShare (OUT m c))
    ∗ scratches c ∗ localSems c ∗ semVal (barCell c) 0 ∗ links (fun t => semVal (sndCell t c) 0) ∗ links (fun t => semVal (rcvCell t c) 0))

/-- The parts' input copies, by direction and window. -/
theorem part1' (c : Dev nD) {α : Type} {Q : α → sProp 𝕄} {k : Words → Prog (TpuEff nD τ sig (Elt F) Λ₀ .tc) α} :
    iprop(xIn m c (xj false 0) ∗ xIn m c (xj true 0) ∗ xIn m c (xj false 1) ∗ xIn m c (xj true 1))
      ⊢ iprop((∀ v2 v5 v7, iprop(xFl m c (xj false 0) ∗ xFl m c (xj true 0) ∗ xFl m c (xj false 1) ∗ xFl m c (xj true 1)) -∗ Run c (k ⟨c, v2, v5, v7⟩) Q) -∗ Run c (onArgs (k0_part1 (F := F)) >>= k) Q) :=
  part1 m c
theorem part2' (K : Dev nD × Slot → ℕ) (c : Dev nD) (v5 v7 : BitVec 32)
    {α : Type} {Q : α → sProp 𝕄} {k : PUnit → Prog (TpuEff nD τ sig (Elt F) Λ₀ .tc) α} :
    iprop(xIn m c (xj false 2) ∗ xIn m c (xj true 2) ∗ xIn m c (xj false 3) ∗ xIn m c (xj true 3))
      ⊢ iprop(env m K -∗ own c allPays
          -∗ iprop((dutyTok ER (barCell (peer (!false) c)) 0 false ∗ ∃ f : Vec F S3x256x2048 .bf16, LT false c Finset.univ fullShare f)
              ∗ (dutyTok ER (barCell (peer (!true) c)) 0 true ∗ ∃ f : Vec F S3x256x2048 .bf16, LT true c Finset.univ fullShare f))
          -∗ iprop(atPos ER (barCell c) 0 ∅ 0 ∗ cred (tallyAt (barCell c) () 2))
          -∗ (iprop((xFl m c (xj false 2) ∗ xFl m c (xj true 2) ∗ xFl m c (xj false 3) ∗ xFl m c (xj true 3)) ∗ (barPay (F := F) c false ∗ barPay (F := F) c true) ∗ semVal (barCell c) 0 ∗ own c (pays 0)) -∗ Run c (k ⟨⟩) Q)
          -∗ Run c (onArgs (k0_part2 (F := F)) c v5 v7 >>= k) Q) :=
  part2 m K c (pays 0) (by decide) v5 v7

theorem ret_step (c : Dev nD) {α : Type} {Q : α → sProp 𝕄} (a : α) : Q a ⊢ Run c (.ret a) Q := by
  unfold Run
  rw [wp_ret]
  exact fupd_intro

/-- After the last wait: everything put together again. -/
theorem finish (c : Dev nD) :
    iprop((pt c cc0_scratch0 Finset.univ fullShare (X m c) ∗ pt c main_arg0 Finset.univ fullShare (X m c)) ∗ (pt c cc0_scratch1 Finset.univ fullShare (Wt m c) ∗ wKept m c))
      ⊢ iprop(semVal (barCell c) 0 -∗ blocks (fun b => oDone m c b) -∗ eight (fun d s => semVal ((c : Thread nD τ), .dma (xS (xj d s))) 0)
        -∗ iprop((LT false c (sset 0) fullShare.right (CT m false c) ∗ LT true c (sset 0) fullShare.right (CT m true c))
          ∗ (LT false c (sset 1) fullShare.right (CT m false c) ∗ LT true c (sset 1) fullShare.right (CT m true c))
          ∗ (LT false c (sset 2) fullShare (CT m false c) ∗ LT true c (sset 2) fullShare (CT m true c)))
        -∗ links (fun t => drained m c t) -∗ links (fun t => semVal (rcvCell t c) 0) -∗ After m c) := by
  iintro ⟨⟨Hx, Hx0⟩, Hw, Hwk⟩ Hb Ho Hxs ⟨⟨R0, R0'⟩, ⟨R1, R1'⟩, R2, R2'⟩ ⟨D0, D1, D2⟩ Hr
  unfold wKept
  icases Hwk with ⟨Hw0, Hws⟩
  ihave ⟨⟨Ho, Ho2⟩, Hos⟩ := (o_back m c) $$ Ho
  ihave ⟨H3, S0⟩ := (drained_rows m c) $$ D0
  ihave ⟨⟨L0, L0'⟩, S1⟩ := (drained_one m c) $$ D1
  ihave ⟨⟨L1, L1'⟩, S2⟩ := (drained_two m c) $$ D2
  ihave HF := (land_back m c false) $$ [L0 R0 L1 R1 R2]
  · isplitl [L0 R0]
    · isplitl [L0]; · iexact L0
      iexact R0
    isplitl [L1 R1]
    · isplitl [L1]; · iexact L1
      iexact R1
    iexact R2
  ihave HT := (land_back m c true) $$ [L0' R0' L1' R1' R2']
  · isplitl [L0' R0']
    · isplitl [L0']; · iexact L0'
      iexact R0'
    isplitl [L1' R1']
    · isplitl [L1']; · iexact L1'
      iexact R1'
    iexact R2'
  unfold After
  isplitl [Hx0 Hw0 Ho]
  · isplitl [Hx0]; · iexact Hx0
    isplitl [Hw0]; · iexact Hw0
    iexact Ho
  isplitl [Hx Hw Ho2 H3 HF HT]
  · unfold scratches
    isplitl [Hx]; · iexists _; iexact Hx
    isplitl [Hw]; · iexists _; iexact Hw
    isplitl [Ho2]; · iexists _; iexact Ho2
    isplitl [H3]; · iexists _; iexact H3
    isplitl [HF]; · iexists (CT m false c); iexact HF
    iexists (CT m true c); iexact HT
  isplitl [Hxs Hws Hos]
  · unfold localSems
    isplitl [Hxs]; · iexact Hxs
    isplitl [Hws]; · iexact Hws
    iexact Hos
  isplitl [Hb]; · iexact Hb
  isplitl [S0 S1 S2]
  · isplitl [S0]; · iexact S0
    isplitl [S1]; · iexact S1
    iexact S2
  iexact Hr

set_option maxHeartbeats 16000000 in
/-- The kernel's body on one device. -/
theorem body (K : Dev nD × Slot → ℕ) (c : Dev nD) {Q : PUnit → sProp 𝕄} :
    Before m c ⊢ iprop(env m K -∗ own c allPays -∗ (iprop(After m c ∗ own c []) -∗ Q ⟨⟩) -∗ Run c (onArgs (cc0_body (F := F))) Q) := by
  unfold onArgs
  rw [cc0_body_eq_skeleton]
  unfold cc0_body_skel
  rw [k0_part39_eq_skeleton]
  unfold k0_part39_skel
  simp only [Prog.lift, Prog.bind_op, Prog.bind_ret, Prog.pure_eq_ret, Prog.bind_assoc]
  unfold Before scratches localSems tokens
  iintro ⟨⟨Hx, Hw, ⟨%fo, Ho⟩⟩, ⟨⟨%f0, H0⟩, H1, ⟨%f2, H2⟩, ⟨%f3, H3⟩, H4, H5⟩, ⟨Xs, Ws, Os⟩, ⟨B0, B1⟩, HB, ⟨K0, K1, K2⟩, R0, R1, R2⟩ #HE HO Hk
  ihave ⟨x0, y0, x1, y1, x2, y2, x3, y3⟩ := (x_ready m c f0) $$ Xs Hx H0
  ihave ⟨Oo, ⟨Oa, Ob, Oc, Od⟩, Of⟩ := (o_ready (F := F) c f2 fo) $$ Os H2 Ho
  -- the input copies start, the barrier
  iapply (part1' m c) $$ [x0 y0 x1 y1]
  · isplitl [x0]; · iexact x0
    isplitl [y0]; · iexact y0
    isplitl [x1]; · iexact x1
    iexact y1
  iintro %v2 %v5 %v7 ⟨x0, y0, x1, y1⟩
  iapply (part2' m K c v5 v7) $$ [x2 y2 x3 y3] HE HO [B0 H4 B1 H5] HB
  · isplitl [x2]; · iexact x2
    isplitl [y2]; · iexact y2
    isplitl [x3]; · iexact x3
    iexact y3
  · isplitl [B0 H4]
    · isplitl [B0]; · iexact B0
      iexact H4
    isplitl [B1]; · iexact B1
    iexact H5
  iintro ⟨⟨x2, y2, x3, y3⟩, HP, HB, HO⟩
  ihave ⟨W0, W1, W2⟩ := (land_all (F := F) c) $$ HP
  ihave S0 := (sndR_eight (F := F) c 0) $$ K0 W0
  ihave S1 := (sndR_eight (F := F) c 1) $$ K1 W1
  ihave S2 := (sndR_eight (F := F) c 2) $$ K2 W2
  ihave Hwin := (win_ready m c f3) $$ H3 [x0 y0 x1 y1 x2 y2 x3 y3] S0
  · isplitl [x0]; · iexact x0
    isplitl [y0]; · iexact y0
    isplitl [x1]; · iexact x1
    isplitl [y1]; · iexact y1
    isplitl [x2]; · iexact x2
    isplitl [y2]; · iexact y2
    isplitl [x3]; · iexact x3
    iexact y3
  ihave ⟨P0, P1⟩ := (pass_ready (F := F) c 0 1) $$ R0 S1
  ihave P2 := (pass_ready (F := F) c 1 2) $$ R1 S2
  ihave P3 := (last_ready (F := F) c) $$ R2 Of
  -- the first hop's sends and the device's own product
  iapply (phaseA m K c v2 v5 v7) $$ Hwin HE HO [Hw H1 Ws Oo P0]
  · isplitl [Hw H1 Ws]
    · unfold wIn
      isplitl [Hw]; · iexact Hw
      isplitl [H1]; · iexact H1
      iexact Ws
    isplitl [Oo]; · iexact Oo
    iexact P0
  iintro %v ⟨⟨H0, Hx, Hkept⟩, ⟨H1, Hw⟩, Oo, P0, HO⟩
  ihave ⟨Xs, D0⟩ := (kept_back (F := F) c) $$ Hkept
  -- the second hop
  iapply (phaseB m K c v2 v5 v7 v) $$ P0 HE HO P1
  iintro %w ⟨P0, HO⟩
  ihave ⟨R0, Z0, D1⟩ := (pass_back m c 0 1) $$ P0
  -- the first hop's products and the third hop
  iapply (phaseC m K c v2 v5 v7 w.1 w.2.1 w.2.2) $$ [R0 Oa Ob] HE HO H1 P2
  · isplitl [R0]; · iexact R0
    isplitl [Oa]; · iexact Oa
    iexact Ob
  iintro %z ⟨⟨R0, Oa, Ob⟩, H1, P1, HO⟩
  ihave ⟨R1, Z1, ⟨E0, E1, E2, E3, E4, E5, E6, E7⟩⟩ := (pass_back m c 1 2) $$ P1
  -- the second hop's products and the last windows
  iapply (phaseD m K c v2 v5 v7 z.1 z.2) $$ [R1 Oc Od] HE HO H1 [Oo Oa Ob] P3
  · isplitl [R1]; · iexact R1
    isplitl [Oc]; · iexact Oc
    iexact Od
  · isplitl [Oo]; · iexact Oo
    isplitl [Oa]; · iexact Oa
    iexact Ob
  iintro ⟨R1, ⟨Oo, Oh⟩, H1, P3, HO⟩
  ihave ⟨R2, Z2, Of⟩ := (last_back m c) $$ P3
  -- the sends waited for
  iapply (phaseE m K c) $$ Of HE HO D0 D1 [E0 E1 E2 E3]
  · isplitl [E0]; · iexact E0
    isplitl [E1]; · iexact E1
    isplitl [E2]; · iexact E2
    iexact E3
  iintro ⟨Of, D0, D1, ⟨E0, E1, E2, E3⟩, HO⟩
  iapply (drain_done m K c (false, 2, 2) (by decide) (by decide)) $$ E4 HE HO; iintro ⟨E4, HO⟩
  iapply (drain_done m K c (true, 2, 2) (by decide) (by decide)) $$ E5 HE HO; iintro ⟨E5, HO⟩
  iapply (drain_done m K c (false, 2, 3) (by decide) (by decide)) $$ E6 HE HO; iintro ⟨E6, HO⟩
  iapply (drain_done m K c (true, 2, 3) (by decide) (by decide)) $$ E7 HE HO; iintro ⟨E7, HO⟩
  iapply (ret_step (F := F) c)
  iapply Hk
  isplitr [HO]
  · iapply (finish m c) $$ [H0 Hx H1 Hw] HB [Oo Oh Of] Xs [R0 R1 R2] [D0 D1 E0 E1 E2 E3 E4 E5 E6 E7] [Z0 Z1 Z2]
    · isplitl [H0 Hx]
      · isplitl [H0]; · iexact H0
        iexact Hx
      isplitl [H1]; · iexact H1
      iexact Hw
    · isplitl [Oo]; · iexact Oo
      isplitl [Oh]; · iexact Oh
      iexact Of
    · isplitl [R0]; · iexact R0
      isplitl [R1]; · iexact R1
      iexact R2
    · isplitl [D0]; · iexact D0
      isplitl [D1]; · iexact D1
      isplitl [E0]; · iexact E0
      isplitl [E1]; · iexact E1
      isplitl [E2]; · iexact E2
      isplitl [E3]; · iexact E3
      isplitl [E4]; · iexact E4
      isplitl [E5]; · iexact E5
      isplitl [E6]; · iexact E6
      iexact E7
    · isplitl [Z0]; · iexact Z0
      isplitl [Z1]; · iexact Z1
      iexact Z2
  iexact HO

end Cert.RingMM

end
-- ==== Proof.Launch.lean ====
/-
  From one device's body to the run of all four: how the launch deals out semaphores and tokens, that what the devices owe one another is what they wait
  for, and what every run ends with.
-/
module

public import proofs.«01_k».proof.Proof.Body
public import Idealize.ShloMosaic.Lib.Pipeline.CollectiveSegs
public import Idealize.ShloMosaic.Lib.Quiescent
public import Idealize.ShloMosaic.Adequacy
public import Idealize.ShloMosaic.Init

@[expose] public section

noncomputable section

namespace Cert.RingMM

open Cert.KernelIdeal Cert.KernelIdeal.Gen
open Idealize.ShloMosaic Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ)

local notation "𝕄" => MT nD τ sig Unit (Elt F) ℕ UU ℕ

/-! ## Indexed resources taken apart -/

theorem bigSep_unit (Φ : Unit → sProp 𝕄) : bigSep Finset.univ Φ = Φ () := by
  rw [bigSep_univ_eq_bigSepL [()] (by decide) (by decide), bigSepL_singleton]
theorem bigSep_two (Φ : Bool → sProp 𝕄) : bigSep Finset.univ Φ = iprop(Φ false ∗ Φ true) := by
  rw [bigSep_univ_eq_bigSepL [false, true] (by decide) (by decide), bigSepL_cons_cons, bigSepL_singleton]
  rfl

/-- The barrier's slot and the links' slots. -/
def slotEquiv : Unit ⊕ (Bool × Link) ≃ Slot where
  toFun := fun | .inl _ => none | .inr p => some p
  invFun := fun | none => .inl () | some p => .inr p
  left_inv := fun | .inl _ => rfl | .inr _ => rfl
  right_inv := fun | none => rfl | some _ => rfl

/-- A resource for every cell of a device: its barrier's, its links' send cells', its links' receive cells'. -/
theorem slots (Φ : Slot → sProp 𝕄) :
    bigSep Finset.univ Φ = iprop(Φ none ∗ (bigSep Finset.univ fun t : Link => Φ (some (false, t))) ∗ bigSep Finset.univ fun t : Link => Φ (some (true, t))) := by
  rw [bigSep_univ_equiv slotEquiv Φ, bigSep_univ_sum, bigSep_unit, bigSep_univ_prod, bigSep_two]
  rfl

/-! ## The kernel's own semaphores -/

abbrev OwnIx : Type := (Fin 8 ⊕ Unit) ⊕ (Blk ⊕ (Bool × Link))
abbrev osem : OwnIx → SemLoc sig
  | .inl (.inl j) => .dma (xS j)
  | .inl (.inr _) => .dma wS
  | .inr (.inl b) => .dma (oS b)
  | .inr (.inr (k, t)) => .dma (rsem k t)

set_option maxRecDepth 20000 in
set_option maxHeartbeats 4000000 in
theorem osem_scoped : ∀ k, (osem k).isScoped .tc = true := by decide
/-- The number of a semaphore of the kernel. -/
def onum : OwnIx → ℕ
  | .inl (.inl j) => (xS j).val
  | .inl (.inr _) => (wS : DmaSem sig).val
  | .inr (.inl b) => (oS b).val
  | .inr (.inr (k, t)) => (rsem k t).val
set_option maxRecDepth 20000 in
set_option maxHeartbeats 4000000 in
set_option synthInstance.maxHeartbeats 400000 in
set_option synthInstance.maxSize 2000 in
theorem onum_inj : ∀ a b, onum a = onum b → a = b := by decide
theorem onum_osem (a b : OwnIx) (h : osem a = osem b) : onum a = onum b := by
  obtain (_ | _) | (_ | ⟨_, _⟩) := a <;> obtain (_ | _) | (_ | ⟨_, _⟩) := b <;> exact congrArg Fin.val (SemLoc.dma.inj h)
theorem ownSemFacts : Pipeline.OwnSemFacts cfg0.spec osem := ⟨osem_scoped, fun a b h => onum_inj a b (onum_osem a b h), fun _ w => w.elim0⟩

theorem ownSems0_eq (c : Dev nD) : (Pipeline.ownSems0 (Ix := Unit) (Name := ℕ) (U := UU) (Lvl := ℕ) (Val := Elt F) (τ := τ) osem c : sProp 𝕄)
    = iprop(((eight fun d s => semVal ((c : Thread nD τ), .dma (xS (xj d s))) 0) ∗ semVal ((c : Thread nD τ), .dma wS) 0)
      ∗ (blocks fun b => semVal ((c : Thread nD τ), .dma (oS b)) 0)
      ∗ (bigSep Finset.univ fun t : Link => semVal (sndCell t c) 0) ∗ bigSep Finset.univ fun t : Link => semVal (rcvCell t c) 0) := by
  unfold Pipeline.ownSems0
  rw [bigSep_univ_sum, bigSep_univ_sum, bigSep_univ_sum, bigSep_unit, bigSep_univ_prod, bigSep_two, eight_fin8, blocks_blk]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Slot => semVal (cell (c, k)) 0) ∗ localSems (F := F) c) := by
  rw [ownSems0_eq, unscopedSems0_eq, slots]
  unfold localSems
  iintro ⟨⟨⟨HX, HW⟩, HO, HS, HV⟩, HB⟩
  isplitl [HB HS HV]
  · isplitl [HB]; · iexact HB
    isplitl [HS]; · iexact HS
    iexact HV
  isplitl [HX]; · iexact HX
  isplitl [HW]; · iexact HW
  iexact HO

/-! ## The exchange's resources -/

def ringCells : Finset (GSem nD τ sig) := Finset.univ.map ⟨cell, cell_inj⟩

abbrev tokOf (x : Dev nD × Slot × Bool) : GSem nD τ sig × ℕ × Bool := (cell (x.1, x.2.1), 0, x.2.2)
theorem tokOf_inj : Function.Injective tokOf := fun x y h => by
  obtain ⟨h1, h2⟩ := Prod.mk.inj h
  obtain ⟨-, h3⟩ := Prod.mk.inj h2
  obtain ⟨h4, h5⟩ := Prod.mk.inj (cell_inj h1)
  exact Prod.ext h4 (Prod.ext h5 h3)
def ringToks : Finset (GSem nD τ sig × ℕ × Bool) := Finset.univ.map ⟨tokOf, tokOf_inj⟩

def u₀ : UU := (initOf (Pipeline.cells cfgs cellOf_inj) (Pipeline.launchToks cfgs cellOf_inj), (initOf ringCells ringToks, 1))

theorem ownU_split (a : UR sig nD τ) (b : UB) : (ownU ((a, (b, 1)) : UU) : sProp 𝕄) ⊢ iprop(BI.own (EP (F := F) a) ∗ BI.own (ER (F := F) b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of a device's own cells. -/
def dealt (c : Dev nD) : sProp 𝕄 :=
  iprop((dutyTok ER (barCell c) 0 false ∗ dutyTok ER (barCell c) 0 true) ∗ (bigSep Finset.univ fun t : Link => dutyTok ER (sndCell t c) 0 false)
    ∗ bigSep Finset.univ fun t : Link => dutyTok ER (rcvCell t c) 0 false)
/-- The tokens of what a device pays. -/
def payToks (c : Dev nD) : sProp 𝕄 :=
  iprop((dutyTok ER (barCell (peer (!false) c)) 0 false ∗ dutyTok ER (barCell (peer (!true) c)) 0 true) ∗ (bigSep Finset.univ fun t : Link => dutyTok ER (sndCell t c) 0 false)
    ∗ bigSep Finset.univ fun t : Link => dutyTok ER (rcvCell t (peer t.1 c)) 0 false)

/-- What a device is dealt. -/
def G (c : Dev nD) : sProp 𝕄 :=
  iprop((bigSep Finset.univ fun k : Slot => roundState ER (ringRd m) (cell (c, k)) 0) ∗ (bigSep Finset.univ fun k : Slot => atPos ER (cell (c, k)) 0 ∅ 0)
    ∗ (bigSep Finset.univ fun k : Slot => reached ER (cell (c, k)) 0) ∗ dealt (F := F) c)
def linear (c : Dev nD) : sProp 𝕄 := iprop((bigSep Finset.univ fun k : Slot => atPos ER (cell (c, k)) 0 ∅ 0) ∗ payToks (F := F) c ∗ localSems (F := F) c)
/-- The cells' invariants. -/
def cellsInv (K : Dev nD × Slot → ℕ) : sProp 𝕄 := bigSep Finset.univ fun x : Dev nD × Slot => iprop(cellInv ER (ringRd m) (K x) (cell x) ∗ reached ER (cell x) 0)
instance cellsInv_persistent (K : Dev nD × Slot → ℕ) : BI.Persistent (cellsInv m K) := by unfold cellsInv; infer_instance
/-- What a device starts with. -/
def G' (c : Dev nD) : sProp 𝕄 := iprop(∃ K, cellsInv m K ∗ linear (F := F) c)

theorem dealt_intro (c : Dev nD) :
    (bigSep Finset.univ fun p : Slot × Bool => (dutyTok ER (cell (c, p.1)) 0 p.2 : sProp 𝕄)) ⊢ dealt c := by
  rw [bigSep_univ_prod, slots, bigSep_two]
  unfold dealt
  exact BI.sep_mono (Entails.refl _) (BI.sep_mono (bigSep_mono fun t _ => bigSep_elim (Finset.mem_univ false)) (bigSep_mono fun t _ => bigSep_elim (Finset.mem_univ false)))

theorem fund_ring : BI.own (ER (F := F) (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Slot => Φ (cell (c, k)) := by
    unfold ringCells; rw [bigSep_map, bigSep_univ_prod]; rfl
  have hT : bigSep ringToks (fun x => (dutyTok ER x.1 x.2.1 x.2.2 : sProp 𝕄)) ⊢ bigSep Finset.univ fun c : Dev nD => dealt c := by
    unfold ringToks; rw [bigSep_map, bigSep_univ_prod]
    exact bigSep_mono fun c _ => dealt_intro c
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat']; · iexact Hat'
  isplitl [Hr']; · iexact Hr'
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (cell (c, k))))
          ∗ (bigSep Finset.univ fun k : Slot => reached ER (cell (c, k)) 0) ∗ ((bigSep Finset.univ fun k : Slot => atPos ER (cell (c, k)) 0 ∅ 0) ∗ localSems (F := F) c) ∗ dealt c) := by
  unfold G
  iintro ⟨Hos, Hus, Hst, Hat, Hr, Htok⟩
  ihave ⟨Hv, Hl⟩ := (sems0_eq (F := F) c) $$ [Hos Hus]
  · isplitl [Hos] <;> iassumption
  imod (show iprop((bigSep Finset.univ fun k : Slot => semVal (cell (c, k)) 0) ∗ bigSep Finset.univ fun k : Slot => roundState ER (ringRd m) (cell (c, k)) 0)
      ⊢ (|={Set.univ}=> bigSep Finset.univ fun k => iprop(∃ κ : ℕ, cellInv ER (ringRd m) κ (cell (c, k))) : sProp 𝕄) from by
        rw [← bigSep_sep']
        exact (bigSep_mono fun k _ => (Rounds.body_intro ER (ringRd m) (cell (c, k))).trans inv_alloc).trans (bigSep_fupd _ _)) $$ [Hv Hst] with Hinv
  · isplitl [Hv] <;> iassumption
  imodintro
  isplitl [Hinv]; · iexact Hinv
  isplitl [Hr]; · iexact Hr
  isplitl [Hat Hl]
  · isplitl [Hat] <;> iassumption
  iexact Htok

/-- Sending in direction `d`, as a rearrangement of the devices. -/
def ring (d : Bool) : Dev nD ≃ Dev nD := ⟨peer d, peer (!d), peer_not d, peer_not' d⟩

theorem by_link (Φ : Dev nD → Link → sProp 𝕄) :
    (bigSep Finset.univ fun c => bigSep Finset.univ fun t => Φ c t) = bigSep Finset.univ fun t => bigSep Finset.univ fun c => Φ c t := by
  rw [← bigSep_univ_prod (fun x : Dev nD × Link => Φ x.1 x.2), ← bigSep_univ_prod (fun x : Link × Dev nD => Φ x.2 x.1),
    bigSep_univ_equiv (Equiv.prodComm Link (Dev nD)) fun x : Dev nD × Link => Φ x.1 x.2]
  rfl

/-- Every token to the device that pays with it. -/
theorem toks_around : (bigSep Finset.univ fun c : Dev nD => (dealt c : sProp 𝕄)) ⊢ bigSep Finset.univ fun c : Dev nD => payToks c := by
  have hR : (bigSep Finset.univ fun c : Dev nD => bigSep Finset.univ fun t : Link => (dutyTok ER (rcvCell t c) 0 false : sProp 𝕄))
      = bigSep Finset.univ fun c : Dev nD => bigSep Finset.univ fun t : Link => (dutyTok ER (rcvCell t (peer t.1 c)) 0 false : sProp 𝕄) := by
    rw [by_link, by_link fun (c : Dev nD) (t : Link) => (dutyTok ER (rcvCell t (peer t.1 c)) 0 false : sProp 𝕄)]
    exact bigSep_congr fun t _ => bigSep_univ_equiv (ring t.1) fun c => (dutyTok ER (rcvCell t c) 0 false : sProp 𝕄)
  unfold dealt payToks
  simp only [bigSep_sep']
  rw [hR, bigSep_univ_equiv (ring (!false)) (fun c : Dev nD => (dutyTok ER (barCell c) 0 false : sProp 𝕄)),
    bigSep_univ_equiv (ring (!true)) (fun c : Dev nD => (dutyTok ER (barCell c) 0 true : sProp 𝕄))]
  exact Entails.refl _

theorem with_all {I : Type} [DecidableEq I] {S : Finset I} {R : sProp 𝕄} [BI.Persistent R] {Φ Ψ : I → sProp 𝕄} (h : ∀ i ∈ S, iprop(R ∗ Φ i) ⊢ Ψ i) :
    iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (cell (c, k))))
          ∗ (bigSep Finset.univ fun k : Slot => reached ER (cell (c, k)) 0) ∗ ((bigSep Finset.univ fun k : Slot => atPos ER (cell (c, k)) 0 ∅ 0) ∗ localSems (F := F) c) ∗ dealt c) : sProp 𝕄)
      ⊢ bigSep Finset.univ (G' m) := by
  rw [bigSep_sep', bigSep_sep', bigSep_sep', ← bigSep_univ_prod (fun x : Dev nD × Slot => iprop(∃ κ : ℕ, cellInv ER (ringRd m) κ (cell x))),
    ← bigSep_univ_prod (fun x : Dev nD × Slot => (reached ER (cell x) 0 : sProp 𝕄))]
  iintro ⟨HI, HR, Hat, Htok⟩
  ihave HK := (BI.bigSep_exists_pi Finset.univ (fun (x : Dev nD × Slot) (κ : ℕ) => (cellInv ER (ringRd m) κ (cell x) : sProp 𝕄))) $$ HI
  icases HK with ⟨%K, HI⟩
  ihave Htk := (toks_around (F := F)) $$ Htok
  iapply (with_all (R := cellsInv m K) (Φ := fun c => iprop((iprop((bigSep Finset.univ fun k : Slot => atPos ER (cell (c, k)) 0 ∅ 0) ∗ localSems (F := F) c)) ∗ payToks (F := F) c)) fun c _ => ?_)
  · show iprop(cellsInv m K ∗ ((bigSep Finset.univ fun k : Slot => atPos ER (cell (c, k)) 0 ∅ 0) ∗ localSems (F := F) c) ∗ payToks (F := F) c) ⊢ G' m c
    unfold G' linear
    iintro ⟨HI, ⟨Ha, Hl⟩, Ht⟩
    iexists K
    isplitl [HI]; · iexact HI
    isplitl [Ha]; · iexact Ha
    isplitl [Ht]; · iexact Ht
    iexact Hl
  · rw [bigSep_sep' Finset.univ _ (fun c => payToks (F := F) c)]
    isplitl [HI HR]
    · unfold cellsInv
      rw [bigSep_sep']
      isplitl [HI]; · iexact HI
      iexact HR
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the devices owe one another, added up -/

abbrev O₀ (c : Dev nD) : CellTallies nD τ sig Unit := debt c allPays

/-- What one payment adds to a cell. -/
def adds (g : GSem nD τ sig) (p : Pay) : ℕ := ∑ d : Dev nD, if g = payCell d p then payAmt p else 0

theorem debts (g : GSem nD τ sig) (ps : List Pay) : ∑ d : Dev nD, debt d ps g () = (ps.map (adds g)).sum := by
  induction ps with
  | nil => exact Finset.sum_const_zero
  | cons p ps ih =>
    rw [List.map_cons, List.sum_cons, ← ih, adds, ← Finset.sum_add_distrib]
    refine Finset.sum_congr rfl fun d _ => ?_
    rw [debt, Pi.add_apply, Finsupp.add_apply, tallyAt_apply, Nat.add_comm]
    congr 1
    exact if_congr ⟨fun h => h.1, fun h => ⟨h, rfl⟩⟩ rfl rfl

theorem dev_of_cell {a b : Dev nD} {sm sm' : SemLoc sig} (h : ((a : Thread nD τ), sm) = ((b : Thread nD τ), sm')) : a = b :=
  congrArg (fun g : GSem nD τ sig => g.1.1) h

theorem adds_bar (c : Dev nD) : adds (barCell c) = fun p => if p = .sig false ∨ p = .sig true then 1 else 0 := by
  funext p
  unfold adds
  cases p with
  | snd t =>
    rw [if_neg (by rintro (h | h) <;> cases h)]
    exact Finset.sum_eq_zero fun d _ => if_neg fun h => by cases congrArg (fun g : GSem nD τ sig => g.2) h
  | sig b =>
    rw [if_pos (by cases b <;> simp), Finset.sum_congr rfl (g := fun d => if d = peer b c then 1 else 0) fun d _ => ?_, Finset.sum_ite_eq', if_pos (Finset.mem_univ _)]
    refine if_congr ⟨fun h => ?_, fun h => ?_⟩ rfl rfl
    · rw [dev_of_cell h, peer_not']
    · rw [h]
      show barCell c = barCell (peer (!b) (peer b c))
      rw [peer_not]

theorem adds_rcv (t : Link) (c : Dev nD) : adds (rcvCell t c) = fun p => if p = .snd t then N else 0 := by
  funext p
  unfold adds
  cases p with
  | sig b =>
    rw [if_neg (fun h => by cases h)]
    exact Finset.sum_eq_zero fun d _ => if_neg fun h => by cases congrArg (fun g : GSem nD τ sig => g.2) h
  | snd t' =>
    by_cases ht : t' = t
    · subst ht
      rw [if_pos rfl, Finset.sum_congr rfl (g := fun d => if d = peer (!t'.1) c then N else 0) fun d _ => ?_, Finset.sum_ite_eq', if_pos (Finset.mem_univ _)]
      refine if_congr ⟨fun h => ?_, fun h => ?_⟩ rfl rfl
      · rw [dev_of_cell h, peer_not]
      · rw [h]
        show rcvCell t' c = rcvCell t' (peer t'.1 (peer (!t'.1) c))
        rw [peer_not']
    · rw [if_neg (fun h => ht (Pay.snd.inj h))]
      refine Finset.sum_eq_zero fun d _ => if_neg fun h => ht ?_
      have h2 : (SemLoc.dma (rsem true t) : SemLoc sig) = .dma (rsem true t') := congrArg (fun g : GSem nD τ sig => g.2) h
      have h3 : some (true, t) = some (true, t') := by rw [← decode_rsem, ← decode_rsem]; exact congrArg decode (SemLoc.dma.inj h2)
      exact (Prod.mk.inj (Option.some.inj h3)).2.symm

theorem sum_if_eq (q : Pay) (n : ℕ) (ps : List Pay) : (ps.map fun p => if p = q then n else 0).sum = ps.count q * n := by
  induction ps with
  | nil => rw [List.map_nil, List.sum_nil, List.count_nil, Nat.zero_mul]
  | cons p ps ih =>
    rw [List.map_cons, List.sum_cons, ih, List.count_cons, Nat.add_mul, Nat.add_comm]
    by_cases h : p = q
    · rw [if_pos h, if_pos (beq_iff_eq.mpr h), Nat.one_mul]
    · rw [if_neg h, if_neg (fun h' => h (beq_iff_eq.mp h')), Nat.zero_mul]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, debts, adds_bar]
  decide

theorem launch_rcv (t : Link) (c : Dev nD) :
    tallyOn (rcvCell t c) (launchCredit (Pipeline.owing O₀) 0 (rcvCell t c)) = (tallyAt (rcvCell t c) () N : CellTallies nD τ sig Unit) := by
  unfold tallyAt; refine congrArg _ (Finsupp.ext fun u => ?_); cases u
  rw [Pipeline.launchCredit_owing, Finsupp.single_eq_same, debts, adds_rcv, sum_if_eq, (show ∀ t, allPays.count (.snd t) = 1 by decide) t, Nat.one_mul]

abbrev rcvSem (t : Link) : SemLoc sig := .dma (rsem true t)
theorem rcvSem_inj : Function.Injective rcvSem := fun t t' h => by
  have h3 : some (true, t) = some (true, t') := by rw [← decode_rsem, ← decode_rsem]; exact congrArg decode (SemLoc.dma.inj h)
  exact (Prod.mk.inj (Option.some.inj h3)).2

theorem creds (c : Dev nD) :
    (Pipeline.launchCred O₀ c : sProp 𝕄) ⊢ iprop(cred (tallyAt (barCell c) () 2) ∗ bigSep Finset.univ fun t : Link => cred (tallyAt (rcvCell t c) () N)) := by
  unfold Pipeline.launchCred
  rw [bigSep_univ_at _ (SemLoc.reg barS), launch_bar]
  refine sep_mono_right ?_
  have hm := bigSep_map (s := Finset.univ) ⟨rcvSem, rcvSem_inj⟩ (Φ := fun sm => (cred (tallyOn ((c : Thread nD τ), sm) (launchCredit (Pipeline.owing O₀) 0 ((c : Thread nD τ), sm))) : sProp 𝕄))
  have hs : Finset.univ.map ⟨rcvSem, rcvSem_inj⟩ ⊆ Finset.univ.erase (SemLoc.reg barS : SemLoc sig) := fun sm h => by
    obtain ⟨t, -, rfl⟩ := Finset.mem_map.mp h
    exact Finset.mem_erase.mpr ⟨(fun h => by cases h), Finset.mem_univ _⟩
  exact (bigSep_subset hs).trans ((Entails.of_eq hm).trans (bigSep_mono fun t _ => Entails.of_eq (congrArg cred (launch_rcv t c))))

/-! ## The body, as the launch asks for it -/

def Φ₀ (c : Dev nD) : sProp 𝕄 := iprop(∃ K, env m K ∗ Before m c)

def dats (_ : Fin 1) (c : Dev nD) : Pipeline.Dat τ (Elt F) Unit ℕ UU ℕ cfg0 c where
  A w := w.elim0
  after w := w.elim0
  Φ t := match t with
    | ⟨0, _⟩ => Φ₀ m c
    | ⟨_ + 1, _⟩ => After m c
  q _ := fullShare
  owed t := match t with
    | ⟨0, _⟩ => debt c allPays
    | ⟨_ + 1, _⟩ => 0

theorem no_win (Φ : Fin cfg0.W → sProp 𝕄) : bigSep Finset.univ Φ = iprop(emp) := by
  rw [show (Finset.univ : Finset (Fin cfg0.W)) = ∅ from rfl, bigSep_empty]
  rfl

theorem body_prog : (defs₀ (F := F)) .tc cfg0.body (cfg0.bodyArgs t0_0 (cfg0.slots t0_0)) = onArgs (cc0_body (F := F)) := rfl

set_option maxRecDepth 4000 in
theorem body_obligation (c : Dev nD) : Pipeline.BodyObligation (dats (F := F) m 0 c) (defs₀ (F := F)) 𝒱₀ () Set.univ := fun t => by
  rw [fin_N0 t, no_win, no_win, body_prog, show (dats m 0 c).Φ t0_0.castSucc = Φ₀ m c from rfl, show (dats m 0 c).Φ t0_0.succ = After m c from rfl]
  unfold Φ₀ Pipeline.Dat.owesAt Pipeline.owesWithin
  rw [show (dats m 0 c).owed t0_0.castSucc = debt c allPays from rfl, show (dats m 0 c).owed t0_0.succ = debt c [] from rfl]
  iintro ⟨⟨%K, He, HB⟩, ⟨%W, %hW, HO⟩, -⟩
  iapply (body m K c) $$ HB He [HO] []
  · unfold own; iexists W; iexact HO
  · iintro ⟨HA, HO⟩
    unfold own
    icases HO with ⟨%W', HO⟩
    isplitl [HA]; · iexact HA
    isplitl [HO]
    · iexists W'; isplitr; · ipureintro; exact fun _ _ => Or.inl trivial
      iexact HO
    iempintro

/-! ## Into the body and out of it -/

/-- What a device holds before its buffers come in. -/
def Start (c : Dev nD) : sProp 𝕄 :=
  iprop(∃ K, env m K ∗ (pt c main_arg0 Finset.univ fullShare (X m c) ∗ pt c main_arg1 Finset.univ fullShare (Wt m c) ∗ ∃ f, pt c main_v1 Finset.univ fullShare f)
    ∗ localSems (F := F) c ∗ tokens (F := F) c)

theorem tokens_intro (c : Dev nD) :
    iprop((bigSep Finset.univ fun k : Slot => atPos ER (cell (c, k)) 0 ∅ 0) ∗ payToks (F := F) c)
      ⊢ iprop(iprop(cred (tallyAt (barCell c) () 2) ∗ bigSep Finset.univ fun t : Link => cred (tallyAt (rcvCell t c) () N)) -∗ tokens (F := F) c) := by
  unfold tokens payToks
  rw [slots, ← links_link, ← links_link]
  unfold linkS rcvR
  simp only [bigSep_sep']
  iintro ⟨⟨HaB, HaS, HaR⟩, HtB, HtS, HtR⟩ ⟨HcB, HcR⟩
  isplitl [HtB]; · iexact HtB
  isplitl [HaB HcB]
  · isplitl [HaB]; · iexact HaB
    iexact HcB
  isplitl [HaS HtS HtR]
  · isplitl [HtS HtR]
    · isplitl [HtS]; · iexact HtS
      iexact HtR
    iexact HaS
  isplitl [HaR]; · iexact HaR
  iexact HcR

theorem start_intro (g : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (g c) ∗ G' m c)
      ⊢ |={Set.univ}=> iprop(Start m c ∗ emp) := by
  rw [Pipeline.unscopedRestP_none, unscopedRest0_eq]
  unfold G' linear
  iintro ⟨⟨H0, H1, H2⟩, Hlev, Hcr, -, ⟨%K, HI, Hat, Htok, Hl⟩⟩
  ihave Hc := (creds (F := F) c) $$ Hcr
  ihave Ht := (tokens_intro (F := F) c) $$ [Hat Htok] Hc
  · isplitl [Hat] <;> iassumption
  imodintro
  unfold Start env
  isplitl
  · iexists K
    isplitl [HI Hlev]
    · isplitl [HI]; · unfold cellsInv; iexact HI
      iexact Hlev
    isplitl [H0 H1 H2]
    · isplitl [H0]; · iexact H0
      isplitl [H1]; · iexact H1
      iexists _; iexact H2
    isplitl [Hl]; · iexact Hl
    iexact Ht
  · iempintro

theorem phi0_intro (c : Dev nD) :
    iprop(Start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Start Before
  iintro ⟨⟨%K, He, Hm, Hl, Ht⟩, -, Hs⟩
  iexists K
  isplitl [He]; · iexact He
  isplitl [Hm]; · iexact Hm
  isplitl [Hs]; · unfold scratches; iexact Hs
  isplitl [Hl]; · iexact Hl
  iexact Ht

/-- What a device ends with, but for its buffers and its own semaphores. -/
def Y (c : Dev nD) : sProp 𝕄 :=
  iprop((pt c main_arg0 Finset.univ fullShare (X m c) ∗ pt c main_arg1 Finset.univ fullShare (Wt m c) ∗ pt c main_v1 Finset.univ fullShare (OUT m c)) ∗ unscopedSems0 c)

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = After m c from rfl, scopedRest0_eq, ownSems0_eq, links_link, links_link]
  unfold After Y localSems
  rw [unscopedSems0_eq]
  iintro ⟨Hm, Hs, ⟨HX, HW, HO⟩, HB, HS, HV⟩
  isplitl [Hm HB]
  · isplitl [Hm]; · iexact Hm
    iexact HB
  isplitl [HX HW HO HS HV]
  · isplitl [HX HW]
    · isplitl [HX]; · iexact HX
      iexact HW
    isplitl [HO]; · iexact HO
    isplitl [HS]; · iexact HS
    iexact HV
  unfold scratches
  iexact Hs

/-- A whole buffer held is what the memory holds. -/
theorem pt_read (c : Dev nD) (b : Ref sig .tc) (f : Buf (Elt F) ((c : Thread nD τ).loc b)) (s' : Phys nD τ sig (Elt F)) :
    iprop(pt c b Finset.univ fullShare f ∗ SI s') ⊢ iprop(⌜s'.mem.mem ((c : Thread nD τ).loc b) = f⌝ ∗ SI s') := by
  have h := pointsTo_read_all (Ix := Unit) (Name := ℕ) (U := UU) (Lvl := ℕ) ({()} : Finset Unit) (fun _ => (c : Thread nD τ).loc b) (fun _ => f) s'
  rw [bigSep_singleton] at h
  refine h.trans ?_
  iintro ⟨%h, H⟩
  isplitr; · ipureintro; exact h () (Finset.mem_singleton_self _)
  iexact H

/-- What a device's arrays hold at the end. -/
def Ends (c : Dev nD) (s : MemSt nD τ sig (Elt F)) : Prop :=
  s.mem ((c.tc : Thread nD τ).loc main_v1) = OUT m c ∧ s.mem ((c.tc : Thread nD τ).loc main_arg0) = m ((c.tc : Thread nD τ).loc main_arg0)
    ∧ s.mem ((c.tc : Thread nD τ).loc main_arg1) = m ((c.tc : Thread nD τ).loc main_arg1)

theorem y_read (c : Dev nD) (s' : Phys nD τ sig (Elt F)) :
    iprop(Y m c ∗ emp ∗ SI s') ⊢ |={Set.univ}=> iprop(⌜Ends m c s'.mem ∧ ∀ sm : SemLoc sig, sm.isScoped .tc = false → s'.mem.sem ((c.tc : Thread nD τ), sm) = 0⌝ ∗ SI s') := by
  unfold Y
  iintro ⟨⟨⟨H0, H1, H2⟩, Hu⟩, -, HSI⟩
  ihave ⟨%h0, HSI⟩ := (pt_read c main_arg0 (X m c) s') $$ [H0 HSI]
  · isplitl [H0] <;> iassumption
  ihave ⟨%h1, HSI⟩ := (pt_read c main_arg1 (Wt m c) s') $$ [H1 HSI]
  · isplitl [H1] <;> iassumption
  ihave ⟨%h2, HSI⟩ := (pt_read c main_v1 (OUT m c) s') $$ [H2 HSI]
  · isplitl [H2] <;> iassumption
  imod (Pipeline.unscopedSems0_read (X := unscopedSems0 c) (c := c) fupd_intro s') $$ [Hu HSI] with ⟨%h3, HSI⟩
  · isplitl [Hu] <;> iassumption
  imodintro
  isplitr; · ipureintro; exact ⟨⟨h2, h0, h1⟩, h3⟩
  iexact HSI

/-! ## The run -/

set_option maxRecDepth 8000 in
/-- Whatever the floats, from any memory with zero counters: every fair run of the four devices ends, each device's result array at `OUT`, its arguments as
they were, every counter at zero. -/
theorem run_main (g : Dev nD → PrngReg) :
    θ_run defs (onTc (τ := τ) (main (F := F))) ⟨m, fun _ => 0, g⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m g main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := G m) (G' := G' m) (u₀ := u₀)
    (hu₀ := by
      unfold u₀
      iintro Hu
      ihave H := (ownU_split (F := F) _ _) $$ Hu
      icases H with ⟨HP, HX⟩
      imod (fund_ring m) $$ HX with HG
      imodintro
      isplitl [HP] <;> iassumption)
    (hglob := glob m)
    (hA := fun _ w => w.elim0) (hpf := fun _ k => k.elim0)
    (X := Start m) (Y := Y m) (Z := fun _ => iprop(emp))
    (hX := start_intro m g) (hin := phi0_intro m) (hout := phi1_exit m)
    (QY := fun c s => Ends m c s ∧ ∀ sm : SemLoc sig, sm.isScoped .tc = false → s.sem ((c.tc : Thread nD τ), sm) = 0)
    (hY := y_read m)
    (hQ := fun _ h hs => ⟨fun c => (h c).2.2.1, sem_eq_zero hs fun c => (h c).2.2.2⟩)

end Cert.RingMM

end
-- ==== Proof.Value.lean ====
/-
  What the kernel leaves is the reference's result: on the extended reals, where a change of format is the identity, every entry of a device's result is one
  row of `x` against one of the device's columns of `w`, cut off below at zero, whichever device the row came from and by whichever way.
-/
module

public import proofs.«01_k».proof.Proof.Geometry
public import proofs.«01_k».proof.Proof.Gen.ReferenceIdeal
public import Idealize.ShloMosaic.Lib.StackMember
public import Idealize.ShloMosaic.Lib.KernelVsHost
public import Idealize.ShloMosaic.Lib.Layout
public import Idealize.ShloMosaic.Lib.ValueIdx
public import Idealize.ShloMosaic.Lib.Pipeline.Value

@[expose] public section

noncomputable section

namespace Cert.RingMM

open Cert.KernelIdeal Cert.KernelIdeal.Gen
open Idealize.ShloMosaic Idealize.ShloMosaic.TcCoe
open Idealize.ShloMosaic.ValueIdx (ix2 ix3)
variable (m : (ℓ : Loc nD τ sig) → Buf (Elt Ideal) ℓ)

/-! ## One entry -/

/-- A row against a column, cut off below at zero. -/
def entry (x w : Fin 2048 → Ideal .f32) : Ideal .f32 := max (∑ k, x k * w k) (Ideal.ofBits .f32 0x00000000#32)

/-- A product with a zero start, cut off below at zero, entry by entry. -/
theorem relu_apply {M : ℕ} (A : FVec Ideal ⟨2, ![M, 2048]⟩ .f32) (B : FVec Ideal ⟨2, ![2048, 512]⟩ .f32) (r : Fin M) (q : Fin 512) :
    maximumf (matmul (DotDims.plain M 2048 512) none A B (constant ⟨2, ![M, 512]⟩ .f32 0x00000000#32))
        (broadcast ⟨2, ![M, 512]⟩ (Scalar.ofBits .f32 0x00000000#32)) (ix2 r q)
      = entry (fun k => A (ix2 r k)) (fun k => B (ix2 k q)) := by
  rw [matmul_zero_eq_dotGeneral]
  show max (Host.dotGeneral (DotDims.plain M 2048 512) none A B (ix2 r q)) _ = _
  rw [StackMember.dotGeneral_plain_apply]
  rfl

/-- The rows a device gets in one load, as a matrix: the leading axis of length one dropped, and widened. -/
theorem lead_apply {M : ℕ} (v : FVec Ideal ⟨3, ![1, M, 2048]⟩ .bf16) (h) (hb) (r : Fin M) (k : Fin 2048) :
    extf .f32 (shapeCast ⟨2, ![M, 2048]⟩ v h) hb (ix2 r k) = v (ix3 0 r k) := by
  show shapeCast ⟨2, ![M, 2048]⟩ v h (ix2 r k) = _
  refine (shapeCast_dropUnit_apply ![M, 2048] v h (ix2 r k)).trans ?_
  exact congrArg v (StackMember.cons_ix2 _ _ _)

theorem ownP_apply (c : Dev nD) (r q : Fin 512) :
    ownP m c (ix2 r q) = entry (fun k => X m c (ix2 r k)) (fun k => Wt m c (ix2 k q)) := by
  unfold ownP k0_pay11 k0_pay10
  rw [shapeCast_self]
  exact relu_apply _ _ r q

/-- Row `r` of what a hop brings in direction `d`. -/
theorem CT_apply (d : Bool) (c : Dev nD) (h : Fin 3) (r : Fin 256) (k : Fin 2048) :
    CT m d c (ix3 h r k) = X m (origin d h c) (ix2 ⟨256 * d.toNat + r.val, row_lt d _ r.isLt⟩ k) := rfl

theorem hopP_apply (d : Bool) (h : Fin 3) (c : Dev nD) (r : Fin 256) (q : Fin 512) :
    hopP m d h c (ix2 r q) = entry (fun k => X m (origin d h c) (ix2 ⟨256 * d.toNat + r.val, row_lt d _ r.isLt⟩ k)) (fun k => Wt m c (ix2 k q)) := by
  unfold hopP k0_pay12
  rw [shapeCast_self]
  refine (relu_apply _ _ r q).trans ?_
  exact congrArg (fun x => entry x _) (funext fun k => lead_apply _ _ _ r k)

theorem finP_apply (d : Bool) (s : Fin 4) (c : Dev nD) (r : Fin 64) (q : Fin 512) :
    finP m d s c (ix2 r q)
      = entry (fun k => X m (origin d 2 c) (ix2 ⟨256 * d.toNat + (64 * s.val + r.val), row_lt d _ (by omega)⟩ k)) (fun k => Wt m c (ix2 k q)) := by
  unfold finP k0_pay18 k0_pay17
  rw [shapeCast_self]
  refine (relu_apply _ _ r q).trans ?_
  exact congrArg (fun x => entry x _) (funext fun k => lead_apply _ _ _ r k)

/-! ## The whole result of a device -/

/-- Row `r` of `x`, whole: row `r % 512` of what device `r / 512` starts with. -/
def xrow (r : Fin 2048) (k : Fin 2048) : Ideal .f32 := X m ⟨r.val / 512, by have := r.isLt; show _ < 4; omega⟩ (ix2 ⟨r.val % 512, Nat.mod_lt _ (by decide)⟩ k)

theorem xrow_eq (c : Dev nD) (p : Fin 512) (r : Fin 2048) (k : Fin 2048) (h : r.val = 512 * c.val + p.val) : X m c (ix2 p k) = xrow m r k := by
  unfold xrow
  have hp := p.isLt
  have h1 : c = ⟨r.val / 512, by have := r.isLt; show _ < 4; omega⟩ := Fin.ext (by show c.val = r.val / 512; omega)
  have h2 : p = ⟨r.val % 512, Nat.mod_lt _ (by decide)⟩ := Fin.ext (by show p.val = r.val % 512; omega)
  exact congrArg₂ (fun c p => X m c (ix2 p k)) h1 h2

theorem OUT_apply (c : Dev nD) (r : Fin 2048) (q : Fin 512) :
    OUT m c (ix2 r q) = entry (xrow m r) (fun k => Wt m c (ix2 k q)) := by
  show outP m c r.val q (key c r.val) = _
  have hc : c.val < 4 := c.isLt
  generalize hb : key c r.val = b
  obtain ⟨h1, h2⟩ := (key_iff c b r.val r.isLt).mp hb
  rcases b with _ | ⟨d, h⟩ | ⟨d, s⟩
  · refine (ownP_apply m c _ q).trans (congrArg (fun x => entry x _) (funext fun k => xrow_eq m _ _ r k ?_))
    simp only [off, rows] at h1 h2 ⊢
    omega
  · refine (hopP_apply m d _ c _ q).trans (congrArg (fun x => entry x _) (funext fun k => xrow_eq m _ _ r k ?_))
    have hh := h.isLt
    cases d <;> simp [off, rows, origin] at h1 h2 ⊢ <;> omega
  · refine (finP_apply m d s c _ q).trans (congrArg (fun x => entry x _) (funext fun k => xrow_eq m _ _ r k ?_))
    have hs := s.isLt
    cases d <;> simp [off, rows, origin] at h1 h2 ⊢ <;> omega

/-! ## Against the reference -/

/-- What the reference leaves, of the whole arrays. -/
def REF (A B : FVec Ideal ⟨2, ![2048, 2048]⟩ .f32) : FVec Ideal ⟨2, ![2048, 2048]⟩ .f32 :=
  maximumf (Host.dotGeneral Cert.ReferenceIdeal.dot_S2048x2048_S2048x2048_S2048x2048_1_0_0_1_n_n none A B)
    (broadcastInDim Cert.ReferenceIdeal.S2048x2048 ![] Cert.ReferenceIdeal.Gen.bcast_S_S2048x2048 (constant Cert.ReferenceIdeal.S_ .f32 0x00000000#32))

theorem REF_apply (A B : FVec Ideal ⟨2, ![2048, 2048]⟩ .f32) (r q : Fin 2048) :
    REF A B (ix2 r q) = entry (fun k => A (ix2 r k)) (fun k => B (ix2 k q)) := by
  show max (Host.dotGeneral (DotDims.plain 2048 2048 2048) none A B (ix2 r q)) _ = _
  rw [StackMember.dotGeneral_plain_apply]
  rfl

/-- Where each device starts with its rows of `A` and its columns of `B`, it ends with its columns of the reference's result. -/
theorem OUT_eq (A B : FVec Ideal ⟨2, ![2048, 2048]⟩ .f32)
    (hX : ∀ c : Dev nD, X m c = Layout.block ⟨2, ![512, 2048]⟩ ⟨2, ![2048, 2048]⟩ 0 4 c A)
    (hW : ∀ c : Dev nD, Wt m c = Layout.block ⟨2, ![2048, 512]⟩ ⟨2, ![2048, 2048]⟩ 1 4 c B) (c : Dev nD) :
    OUT m c = Layout.block ⟨2, ![2048, 512]⟩ ⟨2, ![2048, 2048]⟩ 1 4 c (REF A B) := by
  have hc : c.val < 4 := c.isLt
  funext i
  obtain ⟨r, q, rfl⟩ : ∃ (r : Fin 2048) (q : Fin 512), i = ix2 r q := ⟨i 0, i 1, ValueIdx.eq_ix2 i⟩
  have hq : c.val * 512 + q.val < 2048 := by omega
  have hcol : ∀ (h : Layout.Tiles ⟨2, ![2048, 512]⟩ ⟨2, ![2048, 2048]⟩ 1 4) (k : Fin 2048), h.idx c (ix2 k q) = ix2 k ⟨c.val * 512 + q.val, hq⟩ := by
    intro h k
    funext a
    match a with
    | 0 => rfl
    | 1 => rfl
  rw [OUT_apply, Layout.block_apply, hcol, REF_apply]
  congr 1
  · funext k
    unfold xrow
    rw [hX, Layout.block_apply]
    congr 1
    funext a
    match a with
    | 0 => exact Fin.ext (Nat.div_add_mod' r.val 512)
    | 1 => rfl
  · funext k
    rw [hW, Layout.block_apply, hcol]

end Cert.RingMM

end
-- ==== Proof.lean ====
/-
  The claims, assembled: the run of the kernel on its four devices (Proof/Launch.lean) read at the arguments and the counters gives both frames of the
  kernel, and with the equation of Proof/Value.lean the value claim. The run is stated once, over any float values, so the kernel's frame is the one at
  machine floats and the idealization's the one at the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, its arguments end unchanged, every counter ends at zero. -/
theorem frame_kernel : Cert.quiescent_Kernel (hKernel := Cert.Kernel.Gen.facts) := fun m g _ =>
  (θ_run (Cert.KernelIdeal.defs (F := Bits)) _ _).mono (fun _ h => ⟨fun c => ⟨(h.1 c).2.1, (h.1 c).2.2⟩, h.2⟩) (Cert.RingMM.run_main (F := Bits) m g)

/-- The same of its idealization, on the extended reals. -/
theorem frame_ideal : Cert.quiescent_KernelIdeal (hKernelIdeal := Cert.KernelIdeal.Gen.facts) := fun m g _ =>
  (θ_run (Cert.KernelIdeal.defs (F := Ideal)) _ _).mono (fun _ h => ⟨fun c => ⟨(h.1 c).2.1, (h.1 c).2.2⟩, h.2⟩) (Cert.RingMM.run_main (F := Ideal) m g)

/-- The reference runs, its arguments end unchanged; it has no counter. -/
theorem frame_reference : Cert.quiescent_ReferenceIdeal (hReferenceIdeal := Cert.ReferenceIdeal.Gen.facts) := fun m g _ =>
  (θ_run (Cert.ReferenceIdeal.defs (F := Ideal)) _ _).mono (fun r h => ⟨fun c => ⟨(h c).2.1, (h c).2.2⟩, sem_eq_zero_of_no_sems (by decide) r.2⟩)
    (Cert.ReferenceIdeal.Value.run (F := Ideal) m g)

/-- On the extended reals, every device ends with its columns of what the reference leaves. -/
theorem algebraic : Cert.algebraic_KernelIdeal_ReferenceIdeal (hKernelIdeal := Cert.KernelIdeal.Gen.facts) (hReferenceIdeal := Cert.ReferenceIdeal.Gen.facts) :=
  fun m g m' g' _ hin =>
    ⟨Cert.RingMM.REF (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run (Cert.KernelIdeal.defs (F := Ideal)) _ _).mono
        (fun _ h c => ⟨(h.1 c).1.trans (Cert.RingMM.OUT_eq m _ _ (fun c => (hin c).1) (fun c => (hin c).2) c), (h.1 c).2.1, (h.1 c).2.2⟩)
        (Cert.RingMM.run_main (F := Ideal) m g),
      (θ_run (Cert.ReferenceIdeal.defs (F := Ideal)) _ _).mono (fun _ h => h 0) (Cert.ReferenceIdeal.Value.run (F := Ideal) m' g')⟩

/-- Everything claimed. -/
theorem claim : Cert.Claim :=
  ⟨Cert.Kernel.Gen.facts, Cert.KernelIdeal.Gen.facts, Cert.ReferenceIdeal.Gen.facts, frame_kernel, frame_ideal, frame_reference, trivial, algebraic⟩

end Cert.Proof

end
